-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S4096x2048 : Shape := ⟨2, ![4096, 2048]⟩
abbrev S2x4096x512 : Shape := ⟨3, ![2, 4096, 512]⟩
abbrev S8x1024x512 : Shape := ⟨3, ![8, 1024, 512]⟩
abbrev S4x1024x512 : Shape := ⟨3, ![4, 1024, 512]⟩
abbrev S2x1024x512 : Shape := ⟨3, ![2, 1024, 512]⟩
abbrev S2 : Shape := ⟨1, ![2]⟩
abbrev S8 : Shape := ⟨1, ![8]⟩
abbrev S4 : Shape := ⟨1, ![4]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x8192, .f32⟩
  | .hbm, ⟨2, _⟩ => ⟨S4096x2048, .f32⟩
  | .local _ .vmem, ⟨0, _⟩ => ⟨S1024x4096, .bf16⟩
  | .local _ .vmem, ⟨1, _⟩ => ⟨S2x4096x512, .f32⟩
  | .local _ .vmem, ⟨2, _⟩ => ⟨S8x1024x512, .bf16⟩
  | .local _ .vmem, ⟨3, _⟩ => ⟨S4x1024x512, .fp8e4m3⟩
  | .local _ .vmem, ⟨4, _⟩ => ⟨S8x1024x512, .bf16⟩
  | .local _ .vmem, ⟨5, _⟩ => ⟨S4x1024x512, .fp8e4m3⟩
  | .local _ .vmem, ⟨6, _⟩ => ⟨S2x1024x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_28 : BitVec 32) (c0_i32_36 : BitVec 32) : Fin 2 → Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c4_i32_35 : BitVec 32 := 4#32
  let v54 : BitVec 32 := Scalar.muli v53 c4_i32_35
  let v55 : BitVec 32 := Scalar.addi v54 c0_i32_36
  let c512_i32 : BitVec 32 := 512#32
  let v56 : BitVec 32 := Scalar.muli v55 c512_i32
  ![0, v56.toNat]
def k0_dev4 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_42 : BitVec 32 := 1#32
  let v62 : BitVec 32 := Scalar.addi v2 c1_i32_42
  let c4_i32_43 : BitVec 32 := 4#32
  let c0_i32_44 : BitVec 32 := 0#32
  let v63 : BitVec 1 := Scalar.cmpi .eq c4_i32_43 c0_i32_44
  let c1_i32_45 : BitVec 32 := 1#32
  let v64 : BitVec 32 := Scalar.select v63 c1_i32_45 c4_i32_43
  let v65 : BitVec 32 := Scalar.remsi v62 v64
  let c0_i32_47 : BitVec 32 := 0#32
  let v67 : BitVec 1 := Scalar.cmpi .slt v65 c0_i32_47
  let c0_i32_48 : BitVec 32 := 0#32
  let v68 : BitVec 1 := Scalar.cmpi .slt v64 c0_i32_48
  let v69 : BitVec 1 := Scalar.xori v67 v68
  let c0_i32_46 : BitVec 32 := 0#32
  let v66 : BitVec 1 := Scalar.cmpi .ne v65 c0_i32_46
  let v70 : BitVec 1 := Scalar.andi v69 v66
  let v71 : BitVec 32 := Scalar.addi v65 v64
  let v72 : BitVec 32 := Scalar.select v70 v71 v65
  let c1_i32_83 : BitVec 32 := 1#32
  let v120 : BitVec 32 := Scalar.muli v72 c1_i32_83
  let v121 : BitVec 32 := Scalar.addi c0_i32_84 v120
  v121.toNat
def k0_dev5 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_89 : BitVec 32 := 2#32
  let v130 : BitVec 32 := Scalar.addi v2 c2_i32_89
  let c4_i32_90 : BitVec 32 := 4#32
  let c0_i32_91 : BitVec 32 := 0#32
  let v131 : BitVec 1 := Scalar.cmpi .eq c4_i32_90 c0_i32_91
  let c1_i32_92 : BitVec 32 := 1#32
  let v132 : BitVec 32 := Scalar.select v131 c1_i32_92 c4_i32_90
  let v133 : BitVec 32 := Scalar.remsi v130 v132
  let c0_i32_94 : BitVec 32 := 0#32
  let v135 : BitVec 1 := Scalar.cmpi .slt v133 c0_i32_94
  let c0_i32_95 : BitVec 32 := 0#32
  let v136 : BitVec 1 := Scalar.cmpi .slt v132 c0_i32_95
  let v137 : BitVec 1 := Scalar.xori v135 v136
  let c0_i32_93 : BitVec 32 := 0#32
  let v134 : BitVec 1 := Scalar.cmpi .ne v133 c0_i32_93
  let v138 : BitVec 1 := Scalar.andi v137 v134
  let v139 : BitVec 32 := Scalar.addi v133 v132
  let v140 : BitVec 32 := Scalar.select v138 v139 v133
  let c1_i32_132 : BitVec 32 := 1#32
  let v188 : BitVec 32 := Scalar.muli v140 c1_i32_132
  let v189 : BitVec 32 := Scalar.addi c0_i32_133 v188
  v189.toNat
def k0_dev6 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_138 : BitVec 32 := 3#32
  let v198 : BitVec 32 := Scalar.addi v2 c3_i32_138
  let c4_i32_139 : BitVec 32 := 4#32
  let c0_i32_140 : BitVec 32 := 0#32
  let v199 : BitVec 1 := Scalar.cmpi .eq c4_i32_139 c0_i32_140
  let c1_i32_141 : BitVec 32 := 1#32
  let v200 : BitVec 32 := Scalar.select v199 c1_i32_141 c4_i32_139
  let v201 : BitVec 32 := Scalar.remsi v198 v200
  let c0_i32_143 : BitVec 32 := 0#32
  let v203 : BitVec 1 := Scalar.cmpi .slt v201 c0_i32_143
  let c0_i32_144 : BitVec 32 := 0#32
  let v204 : BitVec 1 := Scalar.cmpi .slt v200 c0_i32_144
  let v205 : BitVec 1 := Scalar.xori v203 v204
  let c0_i32_142 : BitVec 32 := 0#32
  let v202 : BitVec 1 := Scalar.cmpi .ne v201 c0_i32_142
  let v206 : BitVec 1 := Scalar.andi v205 v202
  let v207 : BitVec 32 := Scalar.addi v201 v200
  let v208 : BitVec 32 := Scalar.select v206 v207 v201
  let c1_i32_182 : BitVec 32 := 1#32
  let v256 : BitVec 32 := Scalar.muli v208 c1_i32_182
  let v257 : BitVec 32 := Scalar.addi c0_i32_183 v256
  v257.toNat
def k0_dev7 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_188 : BitVec 32 := 1#32
  let v266 : BitVec 32 := Scalar.addi v2 c1_i32_188
  let c4_i32_189 : BitVec 32 := 4#32
  let c0_i32_190 : BitVec 32 := 0#32
  let v267 : BitVec 1 := Scalar.cmpi .eq c4_i32_189 c0_i32_190
  let c1_i32_191 : BitVec 32 := 1#32
  let v268 : BitVec 32 := Scalar.select v267 c1_i32_191 c4_i32_189
  let v269 : BitVec 32 := Scalar.remsi v266 v268
  let c0_i32_193 : BitVec 32 := 0#32
  let v271 : BitVec 1 := Scalar.cmpi .slt v269 c0_i32_193
  let c0_i32_194 : BitVec 32 := 0#32
  let v272 : BitVec 1 := Scalar.cmpi .slt v268 c0_i32_194
  let v273 : BitVec 1 := Scalar.xori v271 v272
  let c0_i32_192 : BitVec 32 := 0#32
  let v270 : BitVec 1 := Scalar.cmpi .ne v269 c0_i32_192
  let v274 : BitVec 1 := Scalar.andi v273 v270
  let v275 : BitVec 32 := Scalar.addi v269 v268
  let v276 : BitVec 32 := Scalar.select v274 v275 v269
  let c1_i32_230 : BitVec 32 := 1#32
  let v324 : BitVec 32 := Scalar.muli v276 c1_i32_230
  let v325 : BitVec 32 := Scalar.addi c0_i32_231 v324
  v325.toNat
def k0_dev8 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_236 : BitVec 32 := 2#32
  let v334 : BitVec 32 := Scalar.addi v2 c2_i32_236
  let c4_i32_237 : BitVec 32 := 4#32
  let c0_i32_238 : BitVec 32 := 0#32
  let v335 : BitVec 1 := Scalar.cmpi .eq c4_i32_237 c0_i32_238
  let c1_i32_239 : BitVec 32 := 1#32
  let v336 : BitVec 32 := Scalar.select v335 c1_i32_239 c4_i32_237
  let v337 : BitVec 32 := Scalar.remsi v334 v336
  let c0_i32_241 : BitVec 32 := 0#32
  let v339 : BitVec 1 := Scalar.cmpi .slt v337 c0_i32_241
  let c0_i32_242 : BitVec 32 := 0#32
  let v340 : BitVec 1 := Scalar.cmpi .slt v336 c0_i32_242
  let v341 : BitVec 1 := Scalar.xori v339 v340
  let c0_i32_240 : BitVec 32 := 0#32
  let v338 : BitVec 1 := Scalar.cmpi .ne v337 c0_i32_240
  let v342 : BitVec 1 := Scalar.andi v341 v338
  let v343 : BitVec 32 := Scalar.addi v337 v336
  let v344 : BitVec 32 := Scalar.select v342 v343 v337
  let c1_i32_280 : BitVec 32 := 1#32
  let v392 : BitVec 32 := Scalar.muli v344 c1_i32_280
  let v393 : BitVec 32 := Scalar.addi c0_i32_281 v392
  v393.toNat
def k0_dev9 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_286 : BitVec 32 := 3#32
  let v402 : BitVec 32 := Scalar.addi v2 c3_i32_286
  let c4_i32_287 : BitVec 32 := 4#32
  let c0_i32_288 : BitVec 32 := 0#32
  let v403 : BitVec 1 := Scalar.cmpi .eq c4_i32_287 c0_i32_288
  let c1_i32_289 : BitVec 32 := 1#32
  let v404 : BitVec 32 := Scalar.select v403 c1_i32_289 c4_i32_287
  let v405 : BitVec 32 := Scalar.remsi v402 v404
  let c0_i32_291 : BitVec 32 := 0#32
  let v407 : BitVec 1 := Scalar.cmpi .slt v405 c0_i32_291
  let c0_i32_292 : BitVec 32 := 0#32
  let v408 : BitVec 1 := Scalar.cmpi .slt v404 c0_i32_292
  let v409 : BitVec 1 := Scalar.xori v407 v408
  let c0_i32_290 : BitVec 32 := 0#32
  let v406 : BitVec 1 := Scalar.cmpi .ne v405 c0_i32_290
  let v410 : BitVec 1 := Scalar.andi v409 v406
  let v411 : BitVec 32 := Scalar.addi v405 v404
  let v412 : BitVec 32 := Scalar.select v410 v411 v405
  let c1_i32_330 : BitVec 32 := 1#32
  let v460 : BitVec 32 := Scalar.muli v412 c1_i32_330
  let v461 : BitVec 32 := Scalar.addi c0_i32_331 v460
  v461.toNat
def k0_dev10 (d0 : Dev nD) : Nat :=
  let c0_i32_379 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_336 : BitVec 32 := 1#32
  let v470 : BitVec 32 := Scalar.addi v2 c1_i32_336
  let c4_i32_337 : BitVec 32 := 4#32
  let c0_i32_338 : BitVec 32 := 0#32
  let v471 : BitVec 1 := Scalar.cmpi .eq c4_i32_337 c0_i32_338
  let c1_i32_339 : BitVec 32 := 1#32
  let v472 : BitVec 32 := Scalar.select v471 c1_i32_339 c4_i32_337
  let v473 : BitVec 32 := Scalar.remsi v470 v472
  let c0_i32_341 : BitVec 32 := 0#32
  let v475 : BitVec 1 := Scalar.cmpi .slt v473 c0_i32_341
  let c0_i32_342 : BitVec 32 := 0#32
  let v476 : BitVec 1 := Scalar.cmpi .slt v472 c0_i32_342
  let v477 : BitVec 1 := Scalar.xori v475 v476
  let c0_i32_340 : BitVec 32 := 0#32
  let v474 : BitVec 1 := Scalar.cmpi .ne v473 c0_i32_340
  let v478 : BitVec 1 := Scalar.andi v477 v474
  let v479 : BitVec 32 := Scalar.addi v473 v472
  let v480 : BitVec 32 := Scalar.select v478 v479 v473
  let c1_i32_378 : BitVec 32 := 1#32
  let v528 : BitVec 32 := Scalar.muli v480 c1_i32_378
  let v529 : BitVec 32 := Scalar.addi c0_i32_379 v528
  v529.toNat
def k0_dev11 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_384 : BitVec 32 := 2#32
  let v538 : BitVec 32 := Scalar.addi v2 c2_i32_384
  let c4_i32_385 : BitVec 32 := 4#32
  let c0_i32_386 : BitVec 32 := 0#32
  let v539 : BitVec 1 := Scalar.cmpi .eq c4_i32_385 c0_i32_386
  let c1_i32_387 : BitVec 32 := 1#32
  let v540 : BitVec 32 := Scalar.select v539 c1_i32_387 c4_i32_385
  let v541 : BitVec 32 := Scalar.remsi v538 v540
  let c0_i32_389 : BitVec 32 := 0#32
  let v543 : BitVec 1 := Scalar.cmpi .slt v541 c0_i32_389
  let c0_i32_390 : BitVec 32 := 0#32
  let v544 : BitVec 1 := Scalar.cmpi .slt v540 c0_i32_390
  let v545 : BitVec 1 := Scalar.xori v543 v544
  let c0_i32_388 : BitVec 32 := 0#32
  let v542 : BitVec 1 := Scalar.cmpi .ne v541 c0_i32_388
  let v546 : BitVec 1 := Scalar.andi v545 v542
  let v547 : BitVec 32 := Scalar.addi v541 v540
  let v548 : BitVec 32 := Scalar.select v546 v547 v541
  let c1_i32_427 : BitVec 32 := 1#32
  let v596 : BitVec 32 := Scalar.muli v548 c1_i32_427
  let v597 : BitVec 32 := Scalar.addi c0_i32_428 v596
  v597.toNat
def k0_dev12 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_433 : BitVec 32 := 3#32
  let v606 : BitVec 32 := Scalar.addi v2 c3_i32_433
  let c4_i32_434 : BitVec 32 := 4#32
  let c0_i32_435 : BitVec 32 := 0#32
  let v607 : BitVec 1 := Scalar.cmpi .eq c4_i32_434 c0_i32_435
  let c1_i32_436 : BitVec 32 := 1#32
  let v608 : BitVec 32 := Scalar.select v607 c1_i32_436 c4_i32_434
  let v609 : BitVec 32 := Scalar.remsi v606 v608
  let c0_i32_438 : BitVec 32 := 0#32
  let v611 : BitVec 1 := Scalar.cmpi .slt v609 c0_i32_438
  let c0_i32_439 : BitVec 32 := 0#32
  let v612 : BitVec 1 := Scalar.cmpi .slt v608 c0_i32_439
  let v613 : BitVec 1 := Scalar.xori v611 v612
  let c0_i32_437 : BitVec 32 := 0#32
  let v610 : BitVec 1 := Scalar.cmpi .ne v609 c0_i32_437
  let v614 : BitVec 1 := Scalar.andi v613 v610
  let v615 : BitVec 32 := Scalar.addi v609 v608
  let v616 : BitVec 32 := Scalar.select v614 v615 v609
  let c1_i32_477 : BitVec 32 := 1#32
  let v664 : BitVec 32 := Scalar.muli v616 c1_i32_477
  let v665 : BitVec 32 := Scalar.addi c0_i32_478 v664
  v665.toNat
def k0_dev13 (d0 : Dev nD) : Nat :=
  let c0_i32_526 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_483 : BitVec 32 := 1#32
  let v674 : BitVec 32 := Scalar.addi v2 c1_i32_483
  let c4_i32_484 : BitVec 32 := 4#32
  let c0_i32_485 : BitVec 32 := 0#32
  let v675 : BitVec 1 := Scalar.cmpi .eq c4_i32_484 c0_i32_485
  let c1_i32_486 : BitVec 32 := 1#32
  let v676 : BitVec 32 := Scalar.select v675 c1_i32_486 c4_i32_484
  let v677 : BitVec 32 := Scalar.remsi v674 v676
  let c0_i32_488 : BitVec 32 := 0#32
  let v679 : BitVec 1 := Scalar.cmpi .slt v677 c0_i32_488
  let c0_i32_489 : BitVec 32 := 0#32
  let v680 : BitVec 1 := Scalar.cmpi .slt v676 c0_i32_489
  let v681 : BitVec 1 := Scalar.xori v679 v680
  let c0_i32_487 : BitVec 32 := 0#32
  let v678 : BitVec 1 := Scalar.cmpi .ne v677 c0_i32_487
  let v682 : BitVec 1 := Scalar.andi v681 v678
  let v683 : BitVec 32 := Scalar.addi v677 v676
  let v684 : BitVec 32 := Scalar.select v682 v683 v677
  let c1_i32_525 : BitVec 32 := 1#32
  let v732 : BitVec 32 := Scalar.muli v684 c1_i32_525
  let v733 : BitVec 32 := Scalar.addi c0_i32_526 v732
  v733.toNat
def k0_dev14 (d0 : Dev nD) : Nat :=
  let c0_i32_575 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_531 : BitVec 32 := 2#32
  let v742 : BitVec 32 := Scalar.addi v2 c2_i32_531
  let c4_i32_532 : BitVec 32 := 4#32
  let c0_i32_533 : BitVec 32 := 0#32
  let v743 : BitVec 1 := Scalar.cmpi .eq c4_i32_532 c0_i32_533
  let c1_i32_534 : BitVec 32 := 1#32
  let v744 : BitVec 32 := Scalar.select v743 c1_i32_534 c4_i32_532
  let v745 : BitVec 32 := Scalar.remsi v742 v744
  let c0_i32_536 : BitVec 32 := 0#32
  let v747 : BitVec 1 := Scalar.cmpi .slt v745 c0_i32_536
  let c0_i32_537 : BitVec 32 := 0#32
  let v748 : BitVec 1 := Scalar.cmpi .slt v744 c0_i32_537
  let v749 : BitVec 1 := Scalar.xori v747 v748
  let c0_i32_535 : BitVec 32 := 0#32
  let v746 : BitVec 1 := Scalar.cmpi .ne v745 c0_i32_535
  let v750 : BitVec 1 := Scalar.andi v749 v746
  let v751 : BitVec 32 := Scalar.addi v745 v744
  let v752 : BitVec 32 := Scalar.select v750 v751 v745
  let c1_i32_574 : BitVec 32 := 1#32
  let v800 : BitVec 32 := Scalar.muli v752 c1_i32_574
  let v801 : BitVec 32 := Scalar.addi c0_i32_575 v800
  v801.toNat
def k0_dev15 (d0 : Dev nD) : Nat :=
  let c0_i32_625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_580 : BitVec 32 := 3#32
  let v810 : BitVec 32 := Scalar.addi v2 c3_i32_580
  let c4_i32_581 : BitVec 32 := 4#32
  let c0_i32_582 : BitVec 32 := 0#32
  let v811 : BitVec 1 := Scalar.cmpi .eq c4_i32_581 c0_i32_582
  let c1_i32_583 : BitVec 32 := 1#32
  let v812 : BitVec 32 := Scalar.select v811 c1_i32_583 c4_i32_581
  let v813 : BitVec 32 := Scalar.remsi v810 v812
  let c0_i32_585 : BitVec 32 := 0#32
  let v815 : BitVec 1 := Scalar.cmpi .slt v813 c0_i32_585
  let c0_i32_586 : BitVec 32 := 0#32
  let v816 : BitVec 1 := Scalar.cmpi .slt v812 c0_i32_586
  let v817 : BitVec 1 := Scalar.xori v815 v816
  let c0_i32_584 : BitVec 32 := 0#32
  let v814 : BitVec 1 := Scalar.cmpi .ne v813 c0_i32_584
  let v818 : BitVec 1 := Scalar.andi v817 v814
  let v819 : BitVec 32 := Scalar.addi v813 v812
  let v820 : BitVec 32 := Scalar.select v818 v819 v813
  let c1_i32_624 : BitVec 32 := 1#32
  let v868 : BitVec 32 := Scalar.muli v820 c1_i32_624
  let v869 : BitVec 32 := Scalar.addi c0_i32_625 v868
  v869.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v921 : BitVec 32 := Scalar.muli v2 c1024_i32
  let c0_i32_665 : BitVec 32 := 0#32
  ![v921.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_698 : BitVec 32 := 1024#32
  let v973 : BitVec 32 := Scalar.muli v2 c1024_i32_698
  let c512_i32_704 : BitVec 32 := 512#32
  ![v973.toNat, 512]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_737 : BitVec 32 := 1024#32
  let v1025 : BitVec 32 := Scalar.muli v2 c1024_i32_737
  let c1024_i32_748 : BitVec 32 := 1024#32
  ![v1025.toNat, 1024]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_766 : BitVec 32 := 1024#32
  let v1063 : BitVec 32 := Scalar.muli v2 c1024_i32_766
  let c1536_i32 : BitVec 32 := 1536#32
  ![v1063.toNat, 1536]
def k0_off6 (d0 : Dev nD) (c3_i32_779 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1077 : BitVec 32 := Scalar.addi v2 c3_i32_779
  let c4_i32_780 : BitVec 32 := 4#32
  let c0_i32_781 : BitVec 32 := 0#32
  let v1078 : BitVec 1 := Scalar.cmpi .eq c4_i32_780 c0_i32_781
  let c1_i32_782 : BitVec 32 := 1#32
  let v1079 : BitVec 32 := Scalar.select v1078 c1_i32_782 c4_i32_780
  let v1080 : BitVec 32 := Scalar.remsi v1077 v1079
  let c0_i32_784 : BitVec 32 := 0#32
  let v1082 : BitVec 1 := Scalar.cmpi .slt v1080 c0_i32_784
  let c0_i32_785 : BitVec 32 := 0#32
  let v1083 : BitVec 1 := Scalar.cmpi .slt v1079 c0_i32_785
  let v1084 : BitVec 1 := Scalar.xori v1082 v1083
  let c0_i32_783 : BitVec 32 := 0#32
  let v1081 : BitVec 1 := Scalar.cmpi .ne v1080 c0_i32_783
  let v1085 : BitVec 1 := Scalar.andi v1084 v1081
  let v1086 : BitVec 32 := Scalar.addi v1080 v1079
  let v1087 : BitVec 32 := Scalar.select v1085 v1086 v1080
  let c1024_i32_799 : BitVec 32 := 1024#32
  let v1099 : BitVec 32 := Scalar.muli v1087 c1024_i32_799
  let c0_i32_810 : BitVec 32 := 0#32
  ![v1099.toNat, 0]
def k0_off7 (d0 : Dev nD) (c3_i32_881 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1185 : BitVec 32 := Scalar.addi v2 c3_i32_881
  let c4_i32_882 : BitVec 32 := 4#32
  let c0_i32_883 : BitVec 32 := 0#32
  let v1186 : BitVec 1 := Scalar.cmpi .eq c4_i32_882 c0_i32_883
  let c1_i32_884 : BitVec 32 := 1#32
  let v1187 : BitVec 32 := Scalar.select v1186 c1_i32_884 c4_i32_882
  let v1188 : BitVec 32 := Scalar.remsi v1185 v1187
  let c0_i32_886 : BitVec 32 := 0#32
  let v1190 : BitVec 1 := Scalar.cmpi .slt v1188 c0_i32_886
  let c0_i32_887 : BitVec 32 := 0#32
  let v1191 : BitVec 1 := Scalar.cmpi .slt v1187 c0_i32_887
  let v1192 : BitVec 1 := Scalar.xori v1190 v1191
  let c0_i32_885 : BitVec 32 := 0#32
  let v1189 : BitVec 1 := Scalar.cmpi .ne v1188 c0_i32_885
  let v1193 : BitVec 1 := Scalar.andi v1192 v1189
  let v1194 : BitVec 32 := Scalar.addi v1188 v1187
  let v1195 : BitVec 32 := Scalar.select v1193 v1194 v1188
  let c1024_i32_901 : BitVec 32 := 1024#32
  let v1207 : BitVec 32 := Scalar.muli v1195 c1024_i32_901
  let c512_i32_912 : BitVec 32 := 512#32
  ![v1207.toNat, 512]
def k0_off8 (d0 : Dev nD) (c3_i32_983 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1293 : BitVec 32 := Scalar.addi v2 c3_i32_983
  let c4_i32_984 : BitVec 32 := 4#32
  let c0_i32_985 : BitVec 32 := 0#32
  let v1294 : BitVec 1 := Scalar.cmpi .eq c4_i32_984 c0_i32_985
  let c1_i32_986 : BitVec 32 := 1#32
  let v1295 : BitVec 32 := Scalar.select v1294 c1_i32_986 c4_i32_984
  let v1296 : BitVec 32 := Scalar.remsi v1293 v1295
  let c0_i32_988 : BitVec 32 := 0#32
  let v1298 : BitVec 1 := Scalar.cmpi .slt v1296 c0_i32_988
  let c0_i32_989 : BitVec 32 := 0#32
  let v1299 : BitVec 1 := Scalar.cmpi .slt v1295 c0_i32_989
  let v1300 : BitVec 1 := Scalar.xori v1298 v1299
  let c0_i32_987 : BitVec 32 := 0#32
  let v1297 : BitVec 1 := Scalar.cmpi .ne v1296 c0_i32_987
  let v1301 : BitVec 1 := Scalar.andi v1300 v1297
  let v1302 : BitVec 32 := Scalar.addi v1296 v1295
  let v1303 : BitVec 32 := Scalar.select v1301 v1302 v1296
  let c1024_i32_1003 : BitVec 32 := 1024#32
  let v1315 : BitVec 32 := Scalar.muli v1303 c1024_i32_1003
  let c1024_i32_1014 : BitVec 32 := 1024#32
  ![v1315.toNat, 1024]
def k0_off9 (d0 : Dev nD) (c3_i32_1085 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1401 : BitVec 32 := Scalar.addi v2 c3_i32_1085
  let c4_i32_1086 : BitVec 32 := 4#32
  let c0_i32_1087 : BitVec 32 := 0#32
  let v1402 : BitVec 1 := Scalar.cmpi .eq c4_i32_1086 c0_i32_1087
  let c1_i32_1088 : BitVec 32 := 1#32
  let v1403 : BitVec 32 := Scalar.select v1402 c1_i32_1088 c4_i32_1086
  let v1404 : BitVec 32 := Scalar.remsi v1401 v1403
  let c0_i32_1090 : BitVec 32 := 0#32
  let v1406 : BitVec 1 := Scalar.cmpi .slt v1404 c0_i32_1090
  let c0_i32_1091 : BitVec 32 := 0#32
  let v1407 : BitVec 1 := Scalar.cmpi .slt v1403 c0_i32_1091
  let v1408 : BitVec 1 := Scalar.xori v1406 v1407
  let c0_i32_1089 : BitVec 32 := 0#32
  let v1405 : BitVec 1 := Scalar.cmpi .ne v1404 c0_i32_1089
  let v1409 : BitVec 1 := Scalar.andi v1408 v1405
  let v1410 : BitVec 32 := Scalar.addi v1404 v1403
  let v1411 : BitVec 32 := Scalar.select v1409 v1410 v1404
  let c1024_i32_1105 : BitVec 32 := 1024#32
  let v1423 : BitVec 32 := Scalar.muli v1411 c1024_i32_1105
  let c1536_i32_1116 : BitVec 32 := 1536#32
  ![v1423.toNat, 1536]
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Base.lean ====
/-
# `Base`: names for what the kernel's run is about

The resource algebra of the run, the memrefs of the kernel's operands, the pieces it works on (a slot of a buffer of
slots, a tile of the result, a column block of the weights), the semaphores it meets, the devices it addresses, and
the values that lie in each piece.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds of the kernel's cells: the barrier cell has three duties, every other cell one. -/
abbrev UB : Type := URounds (GSem nD τ sig) (Fin 3)
/-- The staging pipeline's part, the rounds' part, and the counters of the local transfers. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- The rounds' part, inside the whole algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-- The counters' part. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices -/

set_option backward.proofsInPublic true in
/-- The device `s` places on. -/
def pe (s : ℕ) (c : Dev nD) : Dev nD := ⟨(c.val + s) % 4, Nat.mod_lt _ (by decide)⟩

theorem pe_1_3 (c : Dev nD) : pe 1 (pe 3 c) = c := by revert c; decide
theorem pe_3_1 (c : Dev nD) : pe 3 (pe 1 c) = c := by revert c; decide
theorem pe_2_2 (c : Dev nD) : pe 2 (pe 2 c) = c := by revert c; decide
theorem pe_0 (c : Dev nD) : pe 0 c = c := by revert c; decide

theorem dev1_eq (c : Dev nD) : (⟨k0_dev1 c, k0_dev1_lt c⟩ : Dev nD) = pe 1 c := by revert c; decide +kernel
theorem dev2_eq (c : Dev nD) : (⟨k0_dev2 c, k0_dev2_lt c⟩ : Dev nD) = pe 2 c := by revert c; decide +kernel
theorem dev3_eq (c : Dev nD) : (⟨k0_dev3 c, k0_dev3_lt c⟩ : Dev nD) = pe 3 c := by revert c; decide +kernel
theorem dev4_eq (c : Dev nD) : (⟨k0_dev4 c, k0_dev4_lt c⟩ : Dev nD) = pe 1 c := by revert c; decide +kernel
theorem dev5_eq (c : Dev nD) : (⟨k0_dev5 c, k0_dev5_lt c⟩ : Dev nD) = pe 2 c := by revert c; decide +kernel
theorem dev6_eq (c : Dev nD) : (⟨k0_dev6 c, k0_dev6_lt c⟩ : Dev nD) = pe 3 c := by revert c; decide +kernel
theorem dev7_eq (c : Dev nD) : (⟨k0_dev7 c, k0_dev7_lt c⟩ : Dev nD) = pe 1 c := by revert c; decide +kernel
theorem dev8_eq (c : Dev nD) : (⟨k0_dev8 c, k0_dev8_lt c⟩ : Dev nD) = pe 2 c := by revert c; decide +kernel
theorem dev9_eq (c : Dev nD) : (⟨k0_dev9 c, k0_dev9_lt c⟩ : Dev nD) = pe 3 c := by revert c; decide +kernel
theorem dev10_eq (c : Dev nD) : (⟨k0_dev10 c, k0_dev10_lt c⟩ : Dev nD) = pe 1 c := by revert c; decide +kernel
theorem dev11_eq (c : Dev nD) : (⟨k0_dev11 c, k0_dev11_lt c⟩ : Dev nD) = pe 2 c := by revert c; decide +kernel
theorem dev12_eq (c : Dev nD) : (⟨k0_dev12 c, k0_dev12_lt c⟩ : Dev nD) = pe 3 c := by revert c; decide +kernel
theorem dev13_eq (c : Dev nD) : (⟨k0_dev13 c, k0_dev13_lt c⟩ : Dev nD) = pe 1 c := by revert c; decide +kernel
theorem dev14_eq (c : Dev nD) : (⟨k0_dev14 c, k0_dev14_lt c⟩ : Dev nD) = pe 2 c := by revert c; decide +kernel
theorem dev15_eq (c : Dev nD) : (⟨k0_dev15 c, k0_dev15_lt c⟩ : Dev nD) = pe 3 c := by revert c; decide +kernel

/-- The column block of the weights at step `(s, j)`: block `j` of the columns of the device `s` places on. -/
theorem off1_eq (c : Dev nD) (s j : Fin 4) :
    k0_off1 c (BitVec.ofNat 32 s.val) (BitVec.ofNat 32 j.val) = ![0, 2048 * (pe s.val c).val + 512 * j.val] := by
  revert c s j; decide +kernel
/-- The rows of the result the device `s` places on provides, at each of the four column blocks. -/
theorem off6_eq (c : Dev nD) (s : Fin 4) : k0_off6 c (BitVec.ofNat 32 s.val) = ![1024 * (pe s.val c).val, 0] := by
  revert c s; decide +kernel
theorem off7_eq (c : Dev nD) (s : Fin 4) : k0_off7 c (BitVec.ofNat 32 s.val) = ![1024 * (pe s.val c).val, 512] := by
  revert c s; decide +kernel
theorem off8_eq (c : Dev nD) (s : Fin 4) : k0_off8 c (BitVec.ofNat 32 s.val) = ![1024 * (pe s.val c).val, 1024] := by
  revert c s; decide +kernel
theorem off9_eq (c : Dev nD) (s : Fin 4) : k0_off9 c (BitVec.ofNat 32 s.val) = ![1024 * (pe s.val c).val, 1536] := by
  revert c s; decide +kernel

/-! ## The memrefs and their pieces -/

abbrev xM : Memref sig .tc .vmem S1024x4096 .bf16 := Memref.whole cc0_stg0_0
abbrev wM : Memref sig .tc .hbm S4096x8192 .f32 := Memref.whole main_arg1
abbrev oM : Memref sig .tc .hbm S4096x2048 .f32 := Memref.whole main_v1
abbrev wb : Memref sig .tc .vmem S2x4096x512 .f32 := Memref.whole cc0_scratch0
abbrev sB : Memref sig .tc .vmem S8x1024x512 .bf16 := Memref.whole cc0_scratch1
abbrev sF : Memref sig .tc .vmem S4x1024x512 .fp8e4m3 := Memref.whole cc0_scratch2
abbrev rB : Memref sig .tc .vmem S8x1024x512 .bf16 := Memref.whole cc0_scratch3
abbrev rF : Memref sig .tc .vmem S4x1024x512 .fp8e4m3 := Memref.whole cc0_scratch4
abbrev oS : Memref sig .tc .vmem S2x1024x512 .f32 := Memref.whole cc0_scratch5

theorem wR_inb : ∀ (k : Fin 2) (a : Fin 3), (![k.val, 0, 0] : Fin 3 → ℕ) a + S1x4096x512.size a ≤ S2x4096x512.size a := by decide
theorem bR_inb : ∀ (k : Fin 8) (a : Fin 3), (![k.val, 0, 0] : Fin 3 → ℕ) a + S1x1024x512.size a ≤ S8x1024x512.size a := by decide
theorem fR_inb : ∀ (k : Fin 4) (a : Fin 3), (![k.val, 0, 0] : Fin 3 → ℕ) a + S1x1024x512.size a ≤ S4x1024x512.size a := by decide
theorem oR_inb : ∀ (k : Fin 2) (a : Fin 3), (![k.val, 0, 0] : Fin 3 → ℕ) a + S1x1024x512.size a ≤ S2x1024x512.size a := by decide
theorem tR_inb : ∀ (o j : Fin 4) (a : Fin 2), (![1024 * o.val, 512 * j.val] : Fin 2 → ℕ) a + S1024x512.size a ≤ S4096x2048.size a := by decide
theorem wcR_inb : ∀ (d j : Fin 4) (a : Fin 2), (![0, 2048 * d.val + 512 * j.val] : Fin 2 → ℕ) a + S4096x512.size a ≤ S4096x8192.size a := by decide

/-- Slot `k` of the weights' buffer. -/
abbrev wR (k : Fin 2) : Rect S2x4096x512 := Rect.unit (s := S2x4096x512) ![k.val, 0, 0] S1x4096x512.size (wR_inb k)
/-- Slot `b` of an eight-slot buffer. -/
abbrev bR (b : Fin 8) : Rect S8x1024x512 := Rect.unit (s := S8x1024x512) ![b.val, 0, 0] S1x1024x512.size (bR_inb b)
/-- Slot `j` of a four-slot buffer. -/
abbrev fR (j : Fin 4) : Rect S4x1024x512 := Rect.unit (s := S4x1024x512) ![j.val, 0, 0] S1x1024x512.size (fR_inb j)
/-- Slot `k` of the result's staging buffer. -/
abbrev oR (k : Fin 2) : Rect S2x1024x512 := Rect.unit (s := S2x1024x512) ![k.val, 0, 0] S1x1024x512.size (oR_inb k)
/-- The tile of the result at row block `o`, column block `j`. -/
abbrev tR (o j : Fin 4) : Rect S4096x2048 := Rect.unit (s := S4096x2048) ![1024 * o.val, 512 * j.val] S1024x512.size (tR_inb o j)
/-- The columns of the weights that make block `j` of device `d`'s columns. -/
abbrev wcR (d j : Fin 4) : Rect S4096x8192 := Rect.unit (s := S4096x8192) ![0, 2048 * d.val + 512 * j.val] S4096x512.size (wcR_inb d j)

/-- A slot of the weights' buffer as the transfer into it names it, its unit axis dropped; -/
abbrev wSq (k : Fin 2) : Memref sig .tc .vmem S4096x512 .f32 := (wb.slice (wR k) (fun _ => rfl)).squeeze S4096x512 squeezes_S1x4096x512_S4096x512
/-- likewise a slot of the staging buffer of the result; -/
abbrev oSq (k : Fin 2) : Memref sig .tc .vmem S1024x512 .f32 := (oS.slice (oR k) (fun _ => rfl)).squeeze S1024x512 squeezes_S1x1024x512_S1024x512
/-- likewise the slots that are sent and that are landed in. -/
abbrev sBq (b : Fin 8) : Memref sig .tc .vmem S1024x512 .bf16 := (sB.slice (bR b) (fun _ => rfl)).squeeze S1024x512 squeezes_S1x1024x512_S1024x512
abbrev sFq (j : Fin 4) : Memref sig .tc .vmem S1024x512 .fp8e4m3 := (sF.slice (fR j) (fun _ => rfl)).squeeze S1024x512 squeezes_S1x1024x512_S1024x512
abbrev rBq (b : Fin 8) : Memref sig .tc .vmem S1024x512 .bf16 := (rB.slice (bR b) (fun _ => rfl)).squeeze S1024x512 squeezes_S1x1024x512_S1024x512
abbrev rFq (j : Fin 4) : Memref sig .tc .vmem S1024x512 .fp8e4m3 := (rF.slice (fR j) (fun _ => rfl)).squeeze S1024x512 squeezes_S1x1024x512_S1024x512

/-! ## The semaphores -/

theorem sem2_inb : ∀ (k : Fin 2) (a : Fin 1), (![k.val] : Fin 1 → ℕ) a + S1.size a ≤ S2.size a := by decide
theorem sem4_inb : ∀ (k : Fin 4) (a : Fin 1), (![k.val] : Fin 1 → ℕ) a + S1.size a ≤ S4.size a := by decide
theorem sem8_inb : ∀ (k : Fin 8) (a : Fin 1), (![k.val] : Fin 1 → ℕ) a + S1.size a ≤ S8.size a := by decide

/-- One semaphore of an array of two; -/
abbrev at2 (A : DmaSems sig S2) (k : Fin 2) : DmaSem sig := ((A.slice (Rect.unit (s := S2) ![k.val] S1.size (sem2_inb k))).squeeze S_ squeezes_S1_S_).sem
/-- of four; -/
abbrev at4 (A : DmaSems sig S4) (k : Fin 4) : DmaSem sig := ((A.slice (Rect.unit (s := S4) ![k.val] S1.size (sem4_inb k))).squeeze S_ squeezes_S1_S_).sem
/-- of eight. -/
abbrev at8 (A : DmaSems sig S8) (k : Fin 8) : DmaSem sig := ((A.slice (Rect.unit (s := S8) ![k.val] S1.size (sem8_inb k))).squeeze S_ squeezes_S1_S_).sem

/-- The runtime's barrier semaphore. -/
abbrev barS : Sem sig := (SemArray.scalar (sig.barrier 0 rfl) : Sems sig S_).sem
/-- The semaphores of the weights' fetches, of the results' write-backs, of the sends and of the receives. -/
abbrev wS (k : Fin 2) : DmaSem sig := at2 cc0_scratch6 k
abbrev oSm (k : Fin 2) : DmaSem sig := at2 cc0_scratch11 k
abbrev bsS (b : Fin 8) : DmaSem sig := at8 cc0_scratch7 b
abbrev fsS (j : Fin 4) : DmaSem sig := at4 cc0_scratch8 j
abbrev brS (b : Fin 8) : DmaSem sig := at8 cc0_scratch9 b
abbrev frS (j : Fin 4) : DmaSem sig := at4 cc0_scratch10 j

/-- The cells a device shares with its peers: its barrier cell, and one cell for each slot it sends and each it
    receives into. -/
inductive Cell
  | bar | bs (b : Fin 8) | fs (j : Fin 4) | br (b : Fin 8) | fr (j : Fin 4)
  deriving DecidableEq

/-- All of a device's cells. -/
def cells : List Cell :=
  [Cell.bar] ++ (List.finRange 8).map .bs ++ (List.finRange 4).map .fs ++ (List.finRange 8).map .br ++ (List.finRange 4).map .fr

theorem mem_cells (k : Cell) : k ∈ cells := by
  unfold cells
  cases k <;> simp

instance : Fintype Cell := ⟨cells.toFinset, fun k => List.mem_toFinset.mpr (mem_cells k)⟩

/-- The semaphore of a cell. -/
abbrev csem : Cell → SemLoc sig
  | .bar => .reg barS | .bs b => .dma (bsS b) | .fs j => .dma (fsS j) | .br b => .dma (brS b) | .fr j => .dma (frS j)

abbrev kcell (c : Dev nD) (k : Cell) : GSem nD τ sig := ((c : Thread nD τ), csem k)

/-- Which cell a semaphore is, if it is one. -/
def kindOf (s : SemLoc sig) : Option Cell := cells.find? fun k => decide (csem k = s)

theorem kindOf_csem_mem : ∀ k ∈ cells, kindOf (csem k) = some k := by decide +kernel
theorem kindOf_csem (k : Cell) : kindOf (csem k) = some k := kindOf_csem_mem k (mem_cells k)
theorem csem_inj : Function.Injective csem := fun k k' h => by
  have := kindOf_csem k; rw [h, kindOf_csem] at this; exact (Option.some.inj this).symm
theorem kindOf_w (k : Fin 2) : kindOf (.dma (wS k)) = none := by revert k; decide +kernel
theorem kindOf_o (k : Fin 2) : kindOf (.dma (oSm k)) = none := by revert k; decide +kernel

/-! ## The transfers' amounts -/

abbrev NW : ℕ := (wSq 0).view.dmaCredit
abbrev NO : ℕ := (oM.slice (tR 0 0) (fun _ => rfl)).view.dmaCredit
abbrev NB : ℕ := (rBq 0).view.dmaCredit
abbrev NF : ℕ := (rFq 0).view.dmaCredit
theorem NW_pos : 0 < NW := View.dmaCredit_pos _ (by decide)
theorem NO_pos : 0 < NO := View.dmaCredit_pos _ (by decide)
theorem NB_pos : 0 < NB := View.dmaCredit_pos _ (by decide)
theorem NF_pos : 0 < NF := View.dmaCredit_pos _ (by decide)

theorem credit_sB (b : Fin 8) : (sBq b).view.dmaCredit = NB := by rfl
theorem credit_sF (j : Fin 4) : (sFq j).view.dmaCredit = NF := by rfl

/-! ## The values -/

/-- The rows of `x` device `c` holds. -/
def xs (c : Dev nD) : (cc0_stg0_0 : Ref sig .tc).ty.Contents (Elt F) :=
  (win0_0.blk (0 : Fin 1)).view.read (Elt F) ((s₀ m ρ).mem ((c : Thread nD τ).loc main_arg0))

/-- A list of values at one shape, read at another with as many elements, in row-major order. -/
def reidx {α : Type} {s s' : Shape} (h : s'.numel = s.numel) (X : s'.Idx → α) : s.Idx → α := fun i => X ((Shape.reshapeEquiv h).symm i)

/-- Block `j` of device `d`'s columns of the weights, as device `c` holds them, in a slot's shape. -/
def wv (c d : Dev nD) (j : Fin 4) : Vec F S1x4096x512 .f32 :=
  reidx (s' := S4096x512) (s := S1x4096x512) (squeezes_S1x4096x512_S4096x512).numel_eq
    ((wM.slice (wcR d j) (fun _ => rfl)).view.read (Elt F) (m ((c : Thread nD τ).loc main_arg1)))

/-- Where slot `b` of the bfloat16 sends goes, where slot `b` of the bfloat16 landings comes from, and the column block
    it carries. -/
def dB (b : Fin 8) (c : Dev nD) : Dev nD := if b.val < 4 then pe 3 c else pe 1 c
def srcB (b : Fin 8) (c : Dev nD) : Dev nD := if b.val < 4 then pe 1 c else pe 3 c
set_option backward.proofsInPublic true in
def jB (b : Fin 8) : Fin 4 := ⟨b.val % 4, Nat.mod_lt _ (by decide)⟩

theorem srcB_dB (b : Fin 8) (c : Dev nD) : srcB b (dB b c) = c := by
  unfold srcB dB; split
  · exact pe_1_3 c
  · exact pe_3_1 c

/-- What lands in slot `b` of device `d`'s bfloat16 landing buffer; -/
def landB (d : Dev nD) (b : Fin 8) : Vec F S1x1024x512 .bf16 := k0_pay1 (wv m (srcB b d) d (jB b)) (xs m ρ (srcB b d))
/-- in slot `j` of its float8 landing buffer. -/
def landF (d : Dev nD) (j : Fin 4) : Vec F S1x1024x512 .fp8e4m3 := k0_pay2 (wv m (pe 2 d) d j) (xs m ρ (pe 2 d))

/-! ## Holding a piece -/

/-- Device `c` holds the piece `r` of `M` whole, with the values `X` in it. -/
def slab (c : Dev nD) {sp : Space} {s : Shape} {e : EltTy} (M : Memref sig .tc sp s e) (r : Rect s) (X : r.shape.Idx → Elt F e) : sProp 𝕄 :=
  iprop(∃ f : Buf (Elt F) (M.view.loc (c : Thread nD τ)), ⌜(M.view.slice r).read (Elt F) f = X⌝
    ∗ (M.view.loc (c : Thread nD τ) ↦[(M.view.slice r).set]{fullShare} f))

omit [FloatOps F] in
instance slab_storable (c : Dev nD) {sp : Space} {s : Shape} {e : EltTy} (M : Memref sig .tc sp s e) (r : Rect s) (X) :
    BI.Storable (upEmb : UEmb _ 𝕄) (slab (F := F) c M r X) := by unfold slab; infer_instance

/-- The same, whatever values it holds. -/
def junk (c : Dev nD) {sp : Space} {s : Shape} {e : EltTy} (M : Memref sig .tc sp s e) (r : Rect s) : sProp 𝕄 :=
  iprop(∃ X, slab (F := F) c M r X)

omit [FloatOps F] in
instance junk_storable (c : Dev nD) {sp : Space} {s : Shape} {e : EltTy} (M : Memref sig .tc sp s e) (r : Rect s) :
    BI.Storable (upEmb : UEmb _ 𝕄) (junk (F := F) c M r) := by unfold junk; infer_instance

end Cert.A2A

end
-- ==== Proof.Schedule.lean ====
/-
# `Schedule`: what the devices' shared cells promise

Every device has one barrier cell and twenty-four transfer cells. The barrier cell of device `c` is signalled once by
each other device, which hands over the landing slots `c` will send into. A receive cell is paid by the transfer that
lands its slot, a send cell by the same transfer once the slot has been read. What each device owes the others is a
list of these payments in program order, and the levels say that no wait can close a cycle.
-/
module

public import proofs.«01_k».proof.Proof.Base

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The schedule -/

/-- What the signal of duty `d` hands the device `c` it goes to: the landing slots at the signalling device that `c`
    sends into. Duty 0 is paid by the device one place on, duty 1 by the one two places on, duty 2 by the one three
    places on. -/
def barPay (c : Dev nD) : Fin 3 → sProp 𝕄
  | 0 => iprop(junk (pe 1 c) rB (bR 4) ∗ junk (pe 1 c) rB (bR 5) ∗ junk (pe 1 c) rB (bR 6) ∗ junk (pe 1 c) rB (bR 7))
  | 1 => iprop(junk (pe 2 c) rF (fR 0) ∗ junk (pe 2 c) rF (fR 1) ∗ junk (pe 2 c) rF (fR 2) ∗ junk (pe 2 c) rF (fR 3))
  | 2 => iprop(junk (pe 3 c) rB (bR 0) ∗ junk (pe 3 c) rB (bR 1) ∗ junk (pe 3 c) rB (bR 2) ∗ junk (pe 3 c) rB (bR 3))

omit [FloatOps F] in
instance barPay_storable (c : Dev nD) (d : Fin 3) : BI.Storable (upEmb : UEmb _ 𝕄) (barPay (F := F) c d) := by
  fin_cases d <;> (show BI.Storable _ (iprop(_ ∗ _))) <;> infer_instance

/-- The duties of a cell in its one round; -/
def dutK : Option Cell → Finset (Fin 3)
  | some .bar => Finset.univ
  | some _ => {0}
  | none => ∅
/-- the units each is worth; -/
def amtK : Option Cell → ℕ
  | some (.bs _) => NB
  | some (.br _) => NB
  | some (.fs _) => NF
  | some (.fr _) => NF
  | _ => 1
/-- what each hands over. -/
def payK (c : Dev nD) : Option Cell → Fin 3 → sProp 𝕄
  | some .bar, d => barPay c d
  | some (.bs b), _ => junk c sB (bR b)
  | some (.fs j), _ => junk c sF (fR j)
  | some (.br b), _ => slab c rB (bR b) (landB m ρ c b)
  | some (.fr j), _ => slab c rF (fR j) (landF m ρ c j)
  | none, _ => iprop(emp)

theorem amtK_pos (k : Option Cell) : 0 < amtK k := by
  rcases k with _ | k
  · exact Nat.one_pos
  · cases k <;> first | exact Nat.one_pos | exact NB_pos | exact NF_pos

instance payK_storable (c : Dev nD) (k : Option Cell) (d : Fin 3) : BI.Storable (upEmb : UEmb _ 𝕄) (payK (F := F) m ρ c k d) := by
  rcases k with _ | k
  · show BI.Storable _ (iprop(emp)); infer_instance
  · cases k <;> dsimp only [payK] <;> infer_instance

/-- The schedule: one round, round 0, of the duties above. -/
def rd : Rounds.Schedule (GSem nD τ sig) (Fin 3) 𝕄 where
  duties g r := if r = 0 ∧ g.1.2 = .tc then dutK (kindOf g.2) else ∅
  unitless _ := False
  amount g _ _ := amtK (kindOf g.2)
  payload g _ d := payK m ρ g.1.1 (kindOf g.2) d
  amount_pos g _ _ _ := amtK_pos _

instance rd_payload_storable (g : GSem nD τ sig) (r : ℕ) (d : Fin 3) :
    BI.Storable (upEmb : UEmb _ 𝕄) ((rd (F := F) m ρ).payload g r d) := by
  show BI.Storable upEmb (payK m ρ g.1.1 (kindOf g.2) d); infer_instance

section Tables
variable (c : Dev nD) (k : Cell)

theorem duties_cell : (rd (F := F) m ρ).duties (kcell c k) 0 = dutK (some k) := by
  dsimp only [rd]; rw [if_pos ⟨rfl, rfl⟩, kindOf_csem]
theorem duties_later (g : GSem nD τ sig) : ∀ r, 1 ≤ r → (rd (F := F) m ρ).duties g r = ∅ :=
  fun r hr => by dsimp only [rd]; rw [if_neg fun h => by omega]
theorem amount_cell (r : ℕ) (d : Fin 3) : (rd (F := F) m ρ).amount (kcell c k) r d = amtK (some k) := by
  dsimp only [rd]; rw [kindOf_csem]
theorem payload_cell (r : ℕ) (d : Fin 3) : (rd (F := F) m ρ).payload (kcell c k) r d = payK m ρ c (some k) d := by
  dsimp only [rd]; rw [kindOf_csem]

theorem expect_bar : (rd (F := F) m ρ).expect (kcell c .bar) 0 = 3 := by
  unfold Schedule.expect Schedule.amountOf
  rw [duties_cell, Finset.sum_congr rfl fun d _ => amount_cell m ρ c .bar 0 d]; rfl
/-- A transfer cell expects the one transfer's amount, -/
theorem expect_xfer (hk : dutK (some k) = {0}) : (rd (F := F) m ρ).expect (kcell c k) 0 = amtK (some k) := by
  unfold Schedule.expect Schedule.amountOf
  rw [duties_cell, hk, Finset.sum_singleton, amount_cell]
/-- and hands over that transfer's payload. -/
theorem rest_xfer (hk : dutK (some k) = {0}) :
    bigSep ((rd (F := F) m ρ).duties (kcell c k) 0 \ ∅) (fun d => (rd (F := F) m ρ).payload (kcell c k) 0 d) = payK m ρ c (some k) 0 := by
  rw [Finset.sdiff_empty, duties_cell, hk, bigSep_singleton, payload_cell]
/-- The barrier cell hands over what its three signals hand over. -/
theorem rest_bar :
    bigSep ((rd (F := F) m ρ).duties (kcell c .bar) 0 \ ∅) (fun d => (rd (F := F) m ρ).payload (kcell c .bar) 0 d)
      = iprop(barPay c 0 ∗ barPay c 1 ∗ barPay c 2) := by
  rw [Finset.sdiff_empty, duties_cell]
  show bigSep Finset.univ _ = _
  rw [bigSep_univ_eq_bigSepL [0, 1, 2] (by decide) (by decide), bigSepL_cons_cons, bigSepL_cons_cons, bigSepL_singleton,
    payload_cell, payload_cell, payload_cell]
  rfl

end Tables

/-! ## What a device owes -/

/-- A payment a device makes into another device's cell: its barrier signal to the device `s` places on, its bfloat16
    transfer of slot `b`, its float8 transfer of slot `j`. -/
inductive Tgt
  | bar (s : Fin 4) | bf (b : Fin 8) | f8 (j : Fin 4)
  deriving DecidableEq

/-- The device and cell a payment of device `c` goes into. -/
def tgtD (c : Dev nD) : Tgt → Dev nD
  | .bar s => pe s.val c | .bf b => dB b c | .f8 _ => pe 2 c
def tgtK : Tgt → Cell
  | .bar _ => .bar | .bf b => .br b | .f8 j => .fr j

def tal (c : Dev nD) (t : Tgt) : CellTallies nD τ sig Unit := tallyAt (kcell (tgtD c t) (tgtK t)) () (amtK (some (tgtK t)))
/-- What device `c` owes while the payments `l` are still to be made. -/
def oweL (c : Dev nD) (l : List Tgt) : CellTallies nD τ sig Unit := (l.map (tal c)).sum

theorem oweL_nil (c : Dev nD) : oweL c [] = 0 := rfl
theorem oweL_cons (c : Dev nD) (t : Tgt) (l : List Tgt) : oweL c (t :: l) = oweL c l + tal c t := by
  unfold oweL; rw [List.map_cons, List.sum_cons, add_comm]

/-- The transfers in program order, -/
def sendL : List Tgt := [.bf 4, .f8 0, .bf 0, .bf 5, .f8 1, .bf 1, .bf 6, .f8 2, .bf 2, .bf 7, .f8 3, .bf 3]
/-- and all of a device's payments. -/
def allL : List Tgt := .bar 1 :: .bar 2 :: .bar 3 :: sendL

def O₀ (c : Dev nD) : CellTallies nD τ sig Unit := oweL c allL

def L (g : GSem nD τ sig) : Finset Unit := if g.1.2 = .tc then {()} else ∅
/-- Barrier cells at level 1, receive cells at level 2, everything else at level 0. -/
def lvK : Option Cell → ℕ
  | some .bar => 1
  | some (.br _) => 2
  | some (.fr _) => 2
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl

/-- What is owed is owed to the cell of a payment still to be made. -/
theorem oweL_pos {c : Dev nD} {l : List Tgt} {g : GSem nD τ sig} {u : Unit} (h : 0 < oweL c l g u) :
    ∃ t ∈ l, g = kcell (tgtD c t) (tgtK t) := by
  induction l with
  | nil => exact absurd h (Nat.lt_irrefl 0)
  | cons t l ih =>
    rw [oweL_cons, Pi.add_apply, Finsupp.add_apply] at h
    by_cases hg : g = kcell (tgtD c t) (tgtK t)
    · exact ⟨t, List.mem_cons_self, hg⟩
    · have h0 : tal c t g u = 0 := by unfold tal; rw [tallyAt_apply, if_neg fun h' => hg h'.1]
      rw [h0, Nat.add_zero] at h
      obtain ⟨t', ht', e⟩ := ih h
      exact ⟨t', List.mem_cons_of_mem _ ht', e⟩

omit [FloatOps F] in
/-- A device may wait at a semaphore at level `n` while it owes only cells at higher levels. -/
theorem mayWait (c : Dev nD) (sm : SemLoc sig) (n : ℕ) (hs : lvK (kindOf sm) = n) (l : List Tgt) (hl : ∀ t ∈ l, n < lvK (some (tgtK t))) :
    (levAts L lv : sProp 𝕄) ⊢ MayWait (c : Thread nD τ) sm () (oweL c l) :=
  MayOwe.of_cut (L := L) (lev := lv) n (fun p hp => by rw [Finset.mem_singleton.mp hp, L_tc]; exact Finset.mem_singleton_self _)
    (fun g u hg => by obtain ⟨t, ht, rfl⟩ := oweL_pos hg; exact Finset.mem_singleton_self _)
    (fun p hp => by rw [Finset.mem_singleton.mp hp]; exact le_of_eq hs)
    (fun g u hg => by
      obtain ⟨t, ht, rfl⟩ := oweL_pos hg
      show n < lvK (kindOf (csem (tgtK t))); rw [kindOf_csem]; exact hl t ht)

theorem lv_pos (t : Tgt) : 0 < lvK (some (tgtK t)) := by cases t <;> exact Nat.zero_lt_succ _

omit [FloatOps F] in
/-- At a semaphore at level 0 it may wait whatever it owes, -/
theorem mayWait_low (c : Dev nD) (sm : SemLoc sig) (hs : lvK (kindOf sm) = 0) (l : List Tgt) :
    (levAts L lv : sProp 𝕄) ⊢ MayWait (c : Thread nD τ) sm () (oweL c l) := mayWait c sm 0 hs l fun t _ => lv_pos t
omit [FloatOps F] in
/-- and at its barrier while it owes transfers only. -/
theorem mayWait_bar (c : Dev nD) : (levAts L lv : sProp 𝕄) ⊢ MayWait (c : Thread nD τ) (.reg barS) () (oweL c sendL) :=
  mayWait c _ 1 (by have := kindOf_csem .bar; exact congrArg lvK this) sendL (by decide)
omit [FloatOps F] in
/-- Owing nothing it may wait anywhere. -/
theorem mayWait_none (c : Dev nD) (sm : SemLoc sig) : (levAts L lv : sProp 𝕄) ⊢ MayWait (c : Thread nD τ) sm () (oweL c []) := by
  rw [oweL_nil, MayWait_zero]; iintro -; iempintro

/-! ## What is known of all cells, and what a device starts from -/

/-- The invariants of all devices' cells, under the names `K`, and that every cell has reached round 0. -/
def records (K : Dev nD × Cell → ℕ) : sProp 𝕄 :=
  bigSep Finset.univ fun ck : Dev nD × Cell =>
    iprop(cellInv ER (rd m ρ) (K ck) (kcell ck.1 ck.2) ∗ reached ER (kcell ck.1 ck.2) 0)

instance records_persistent (K : Dev nD × Cell → ℕ) : BI.Persistent (records m ρ K) := by unfold records; infer_instance

theorem rec_at (K : Dev nD × Cell → ℕ) (c : Dev nD) (k : Cell) :
    records m ρ K ⊢ iprop(cellInv ER (rd m ρ) (K (c, k)) (kcell c k) ∗ reached ER (kcell c k) 0) := by
  unfold records
  exact bigSep_elim (Finset.mem_univ ((c, k) : Dev nD × Cell))
theorem rec_inv (K : Dev nD × Cell → ℕ) (c : Dev nD) (k : Cell) : records m ρ K ⊢ cellInv ER (rd m ρ) (K (c, k)) (kcell c k) := by
  iintro H
  ihave H' := (rec_at m ρ K c k) $$ H
  icases H' with ⟨H, -⟩; iexact H
theorem rec_reached (K : Dev nD × Cell → ℕ) (c : Dev nD) (k : Cell) : records m ρ K ⊢ reached ER (kcell c k) 0 := by
  iintro H
  ihave H' := (rec_at m ρ K c k) $$ H
  icases H' with ⟨-, H⟩; iexact H

/-- Device `c` owes the payments `l`. -/
def ow (c : Dev nD) (l : List Tgt) : sProp 𝕄 := iprop(∃ W : Waits sig Unit, owes (c : Thread nD τ) (oweL c l) W)

end Cert.A2A

end
-- ==== Proof.Steps.lean ====
/-
# `Steps`: one rule for each thing the kernel does

Each rule says what one operation, or one short run of operations, of the kernel takes and gives back: a fetch of a
block of the weights and the wait for it, a load and a store of a slot, a signal, a send, the wait for a send or a
receive, a write-back of a tile of the result and the wait for it.
-/
module

public import proofs.«01_k».proof.Proof.Schedule
public import Idealize.ShloMosaic.Lib.ViewIndex

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `p`, and what it ends with satisfies `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Reading and writing a slot through its view with the unit axis dropped -/

section Slot
variable {sp : Space} {s s' : Shape} {e : EltTy}

omit [FloatOps F] in
theorem read_slot_write (v : View sig .tc sp s e) (h : s'.numel = s.numel) (f : v.ty.Contents (Elt F)) (w : s'.Idx → Elt F e) :
    v.read (Elt F) ((v.reshape s' h).write (Elt F) f w Finset.univ) = reidx h w := by
  funext i
  have := View.read_write_reshape (Val := Elt F) v h f w ((Shape.reshapeEquiv h).symm i)
  rw [Equiv.apply_symm_apply] at this
  exact this

omit [FloatOps F] in
theorem read_reshape (v : View sig .tc sp s e) (h : s'.numel = s.numel) (f : v.ty.Contents (Elt F)) :
    (v.reshape s' h).read (Elt F) f = fun y => v.read (Elt F) f (Shape.reshapeEquiv h y) := rfl

theorem reidx_reshape {α : Type} (h : s'.numel = s.numel) (X : s.Idx → α) : reidx h (fun y => X (Shape.reshapeEquiv h y)) = X := by
  funext i; unfold reidx; dsimp only; rw [Equiv.apply_symm_apply]

/-- A slot rewritten through the view with its unit axis dropped holds what was written. -/
theorem slab_of_write (c : Dev nD) (M : Memref sig .tc sp s e) (r : Rect s) (h : s'.numel = r.shape.numel)
    (f : Buf (Elt F) (M.view.loc (c : Thread nD τ))) (w : s'.Idx → Elt F e) :
    (M.view.loc (c : Thread nD τ) ↦[((M.view.slice r).reshape s' h).set]{fullShare} ((M.view.slice r).reshape s' h).write (Elt F) f w Finset.univ : sProp 𝕄)
      ⊢ slab c M r (reidx h w) := by
  unfold slab
  rw [View.set_reshape]
  iintro H
  iexists (((M.view.slice r).reshape s' h).write (Elt F) f w Finset.univ)
  isplitr; · ipureintro; exact read_slot_write _ _ _ _
  iexact H

omit [FloatOps F] in
theorem junk_open (c : Dev nD) (M : Memref sig .tc sp s e) (r : Rect s) :
    (junk c M r : sProp 𝕄) ⊢ iprop(∃ f : Buf (Elt F) (M.view.loc (c : Thread nD τ)), (M.view.loc (c : Thread nD τ) ↦[(M.view.slice r).set]{fullShare} f)) := by
  unfold junk slab
  iintro ⟨%X, %f, %hf, H⟩
  iexists f; iexact H
omit [FloatOps F] in
theorem junk_intro (c : Dev nD) (M : Memref sig .tc sp s e) (r : Rect s) (X : r.shape.Idx → Elt F e) : (slab c M r X : sProp 𝕄) ⊢ junk c M r := by
  unfold junk
  iintro H
  iexists X; iexact H
omit [FloatOps F] in
theorem junk_of_pts (c : Dev nD) (M : Memref sig .tc sp s e) (r : Rect s) (f : Buf (Elt F) (M.view.loc (c : Thread nD τ))) :
    (M.view.loc (c : Thread nD τ) ↦[(M.view.slice r).set]{fullShare} f : sProp 𝕄) ⊢ junk c M r := by
  unfold junk slab
  iintro H
  iexists _, f
  isplitr; · ipureintro; rfl
  iexact H

end Slot

/-! ## Local transfers: the weights in, the tiles of the result out -/

/-- Device `c` holds block `j` of device `d`'s columns of the weights; -/
def wcol (c d : Dev nD) (j : Fin 4) : sProp 𝕄 :=
  wM.view.loc (c : Thread nD τ) ↦[(wM.view.slice (wcR d j)).set]{fullShare} m ((c : Thread nD τ).loc main_arg1)
theorem wcol_eq (c d : Dev nD) (j : Fin 4) : wcol m c d j =
    ((wM.slice (wcR d j) (fun _ => rfl)).view.loc (c : Thread nD τ) ↦[(wM.slice (wcR d j) (fun _ => rfl)).view.set]{fullShare}
      m ((c : Thread nD τ).loc main_arg1) : sProp 𝕄) := rfl
/-- that block is on its way into slot `k` of the weights' buffer. -/
def wFl (c : Dev nD) (k : Fin 2) (d : Dev nD) (j : Fin 4) : sProp 𝕄 :=
  Transfers.Flight EC (c : Thread nD τ) (.dma (wS k)) () NW iprop(slab c wb (wR k) (wv m c d j) ∗ wcol m c d j)

theorem wp_fetch (c : Dev nD) (k : Fin 2) (d : Dev nD) (j : Fin 4) {off : Fin 2 → ℕ} (hoff : off = ![0, 2048 * d.val + 512 * j.val]) {inb}
    {hr} {h1 h2 h3} {α : Type} {kk : PUnit → Prog (TpuEff nD τ sig (Elt F) Λ₀ .tc) α} {Q : α → sProp 𝕄} :
    iprop(junk c wb (wR k) ∗ wcol m c d j ∗ semVal ((c : Thread nD τ), .dma (wS k)) 0)
      ⊢ iprop((wFl m c k d j -∗ WP c (kk ⟨⟩) Q)
        -∗ WP c (.op (.enqueueDma (wM.slice (Rect.unit (s := S4096x8192) off S4096x512.size inb) hr) (.here (wSq k)) (.dma (wS k)) h1 h2 h3) kk) Q) := by
  subst hoff
  unfold wFl
  iintro ⟨Hj, Hw, Hv⟩ Hk
  ihave Hj' := (junk_open c wb (wR k)) $$ Hj
  icases Hj' with ⟨%f, Hf⟩
  ihave Hw' := (Entails.of_eq (wcol_eq m c d j)) $$ Hw
  iapply (Transfers.wp_dmaLocal EC 𝒱₀ (c : Thread nD τ) none (src := wM.slice (wcR d j) (fun _ => rfl)) (dst := wSq k)
    (q := fullShare) (fs := m ((c : Thread nD τ).loc main_arg1)) (Sd := (wSq k).view.set) (fd := f) () NW rfl NW_pos (Finset.Subset.refl _)) $$ [Hf Hw' Hv]
  · isplitl [Hw']; · iexact Hw'
    isplitl [Hf]; · rw [View.set_reshape]; iexact Hf
    iexact Hv
  iintro Hfl
  iapply Hk
  iapply (Transfers.Flight_mono EC (c : Thread nD τ) (BIClass.sep_mono (slab_of_write c wb (wR k) squeezes_S1x4096x512_S4096x512.numel_eq f _)
    (Entails.of_eq (wcol_eq m c d j).symm)))
  iexact Hfl

/-- The wait for a block of the weights. -/
theorem wp_fetched (c : Dev nD) (k : Fin 2) (d : Dev nD) (j : Fin 4) (l : List Tgt) {sp : Space} {s : Shape} {e : EltTy}
    {srcw : Memref sig .tc sp s e} {h1 h2} {α : Type}
    {kk : PUnit → Prog (TpuEff nD τ sig (Elt F) Λ₀ .tc) α} {Q : α → sProp 𝕄} :
    iprop(wFl m c k d j ∗ ow c l ∗ levAts L lv)
      ⊢ iprop(((slab c wb (wR k) (wv m c d j) ∗ wcol m c d j ∗ semVal ((c : Thread nD τ), .dma (wS k)) 0 ∗ ow c l) -∗ WP c (kk ⟨⟩) Q)
        -∗ WP c (.op (.waitDma2 (wS k) srcw (wSq k) h1 h2) kk) Q) := by
  unfold wFl ow
  iintro ⟨Hfl, ⟨%W, HO⟩, #Hlev⟩ Hk
  iapply (Transfers.wp_waitLocalO EC 𝒱₀ (c : Thread nD τ) none (srcw := srcw) (dstw := wSq k) (hsrc := h1) (hdst := h2) () (N := NW) rfl) $$ [Hfl HO]
  · isplitl [Hfl]; · iexact Hfl
    isplitl [HO]; · iexact HO
    iapply (mayWait_low c (.dma (wS k)) (congrArg lvK (kindOf_w k)) l); iexact Hlev
  iintro ⟨⟨Hs, Hw⟩, Hv, HO⟩
  iapply Hk
  isplitl [Hs]; · iexact Hs
  isplitl [Hw]; · iexact Hw
  isplitl [Hv]; · iexact Hv
  iexists _; iexact HO

/-! ## Loads and stores of a slot -/

section LoadStore
variable {cs : CoreSpace} {s : Shape} {e : EltTy} {α : Type}

theorem wp_slot_load (c : Dev nD) (M : Memref sig .tc cs s e) (r : Rect s) (X : r.shape.Idx → Elt F e) {hl}
    {kk : (r.shape.Idx → Elt F e) → Prog (TpuEff nD τ sig (Elt F) Λ₀ .tc) α} {Q : α → sProp 𝕄} :
    slab c M r X ⊢ iprop((slab c M r X -∗ WP c (kk X) Q) -∗ WP c (.op (.load M r.toLoadRect hl) kk) Q) := by
  unfold slab
  iintro ⟨%f, %hf, Hf⟩ Hk
  iapply (wp_load_rect 𝒱₀ (c : Thread nD τ) none Set.univ (m := M) (r := r) (Finset.Subset.refl _)) $$ Hf
  iintro Hf
  rw [hf]
  iapply Hk
  iexists f
  isplitr; · ipureintro; exact hf
  iexact Hf

theorem wp_slot_store (c : Dev nD) (M : Memref sig .tc cs s e) (r : Rect s) (X v : r.shape.Idx → Elt F e) {hx hm}
    {kk : PUnit → Prog (TpuEff nD τ sig (Elt F) Λ₀ .tc) α} {Q : α → sProp 𝕄} :
    slab c M r X ⊢ iprop((slab c M r v -∗ WP c (kk ⟨⟩) Q) -∗ WP c (.op (.store M r v Finset.univ hx hm) kk) Q) := by
  unfold slab
  iintro ⟨%f, %hf, Hf⟩ Hk
  iapply (wp_store 𝒱₀ (c : Thread nD τ) none Set.univ (m := M) (r := r) (Mk := Finset.univ) (S := (M.view.slice r).set) (Finset.Subset.refl _)) $$ Hf
  iintro Hf
  iapply Hk
  iexists ((M.view.slice r).write (Elt F) f v Finset.univ)
  isplitr; · ipureintro; exact View.read_write_univ _ _
  iexact Hf

/-- A slot is loaded, its value unused, and stored. -/
theorem wp_put (c : Dev nD) (M : Memref sig .tc cs s e) (r : Rect s) (v : r.shape.Idx → Elt F e) {hl hx hm}
    {kk : PUnit → Prog (TpuEff nD τ sig (Elt F) Λ₀ .tc) α} {Q : α → sProp 𝕄} :
    junk c M r ⊢ iprop((slab c M r v -∗ WP c (kk ⟨⟩) Q)
      -∗ WP c (.op (.load M r.toLoadRect hl) fun _ => .op (.store M r v Finset.univ hx hm) kk) Q) := by
  unfold junk
  iintro ⟨%X, H⟩ Hk
  iapply (wp_slot_load c M r X) $$ H
  iintro H
  iapply (wp_slot_store c M r X v) $$ H
  iexact Hk

end LoadStore

/-- Device `c`'s rows of `x`, in their staging buffer. -/
def xPts (c : Dev nD) : sProp 𝕄 := ((c : Thread nD τ).loc cc0_stg0_0) ↦{fullShare} xs m ρ c

abbrev xR : Rect S1024x4096 := Rect.unit (s := S1024x4096) ![0, 0] S1024x4096.size inb_S1024x4096_S1024x4096_0_0

omit [FloatOps F] in
theorem hz : (![0, 0] : Fin 2 → Nat) = fun _ => 0 := funext fun a => by fin_cases a <;> rfl

theorem wp_x_load (c : Dev nD) {hl} {α : Type} {Q : α → sProp 𝕄}
    {kk : (xR.shape.Idx → Elt F .bf16) → Prog (TpuEff nD τ sig (Elt F) Λ₀ .tc) α} :
    xPts m ρ c ⊢ iprop((xPts m ρ c -∗ WP c (kk (xs m ρ c)) Q) -∗ WP c (.op (.load xM xR.toLoadRect hl) kk) Q) := by
  unfold xPts
  iintro Hx Hk
  iapply (wp_load 𝒱₀ (c : Thread nD τ) none Set.univ (m := xM) (Finset.subset_univ _)) $$ Hx
  iintro Hx
  rw [show (xM : Memref sig .tc .vmem S1024x4096 .bf16).view.readAt (Elt F) xR.toLoadRect (xs m ρ c) = xs m ρ c from
    Memref.readAt_unit_zero (Elt F) cc0_stg0_0 hz _ _]
  iapply Hk; iexact Hx

/-- The wait for a block of the weights, then the loads of it and of the rows of `x`. -/
theorem wp_pre (c : Dev nD) (k : Fin 2) (d : Dev nD) (j : Fin 4) (l : List Tgt) {sp : Space} {s : Shape} {e : EltTy}
    {srcw : Memref sig .tc sp s e} {h1 h2 hl hl'} {α : Type} {Q : α → sProp 𝕄}
    {kk : ((wR k).shape.Idx → Elt F .f32) → (xR.shape.Idx → Elt F .bf16) → Prog (TpuEff nD τ sig (Elt F) Λ₀ .tc) α} :
    iprop(wFl m c k d j ∗ ow c l ∗ levAts L lv ∗ xPts m ρ c)
      ⊢ iprop(((junk c wb (wR k) ∗ wcol m c d j ∗ semVal ((c : Thread nD τ), .dma (wS k)) 0 ∗ ow c l ∗ xPts m ρ c)
          -∗ WP c (kk (wv m c d j) (xs m ρ c)) Q)
        -∗ WP c (.op (.waitDma2 (wS k) srcw (wSq k) h1 h2) fun _ => .op (.load wb (wR k).toLoadRect hl) fun v =>
            .op (.load xM xR.toLoadRect hl') fun x => kk v x) Q) := by
  iintro ⟨Hfl, HO, #Hlev, Hx⟩ Hk
  iapply (wp_fetched m c k d j l) $$ [Hfl HO]
  · isplitl [Hfl]; · iexact Hfl
    isplitl [HO]; · iexact HO
    iexact Hlev
  iintro ⟨Hs, Hw, Hv, HO⟩
  iapply (wp_slot_load c wb (wR k) (wv m c d j)) $$ Hs
  iintro Hs
  iapply (wp_x_load m ρ c) $$ Hx
  iintro Hx
  iapply Hk
  isplitl [Hs]; · iapply (junk_intro c wb (wR k)); iexact Hs
  isplitl [Hw]; · iexact Hw
  isplitl [Hv]; · iexact Hv
  isplitl [HO]; · iexact HO
  iexact Hx

end Cert.A2A

end
-- ==== Proof.Steps2.lean ====
/-
# `Steps2`: the rules for what devices do to each other, and for the write-backs

A barrier signal and the barrier wait, a send into another device's landing slot, the wait for one of a device's own
transfer cells, and the write-back of a tile of the result with the wait for it.
-/
module

public import proofs.«01_k».proof.Proof.Steps

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-! ## The barrier -/

theorem payK_bar (c : Dev nD) (d : Fin 3) : payK (F := F) m ρ c (some .bar) d = barPay c d := rfl

/-- A signal to the device `s` places on pays one unit into its barrier cell and hands it the landing slots. -/
theorem wp_sig (c n : Dev nD) (s : Fin 4) (d : Fin 3) (l : List Tgt) (hn : n = pe s.val c) {u : ℤ} (hu : u = ((1 : ℕ) : ℤ))
    {α : Type} {kk : PUnit → Prog (TpuEff nD τ sig (Elt F) Λ₀ .tc) α} {Q : α → sProp 𝕄} :
    iprop(records m ρ K ∗ ow c (.bar s :: l) ∗ dutyTok ER (kcell (pe s.val c) .bar) 0 d ∗ barPay (pe s.val c) d)
      ⊢ iprop((ow c l -∗ WP c (kk ⟨⟩) Q) -∗ WP c (.op (.semSignal (n, .tc) barS u) kk) Q) := by
  subst hn hu
  unfold ow
  rw [oweL_cons]
  iintro ⟨#Hrec, ⟨%W, HO⟩, Ht, Hp⟩ Hk
  iapply (Rounds.wp_signal 𝒱₀ ER (rd m ρ) (c : Thread nD τ) none (dst := (pe s.val c : Thread nD τ)) (κ := K (pe s.val c, .bar)) (r := 0)
      (d := d) (by rw [duties_cell m ρ (pe s.val c) .bar]; exact Finset.mem_univ _) (amount_cell m ρ (pe s.val c) .bar 0 d) () (oweL c l) rfl)
    $$ [HO Ht Hp]
  · isplitr; · iapply (rec_inv m ρ K (pe s.val c) .bar); iexact Hrec
    isplitl [HO]; · iexact HO
    isplitl [Ht]; · iexact Ht
    isplitl [Hp]; · rw [payload_cell m ρ (pe s.val c) .bar, payK_bar]; iexact Hp
    iapply (rec_reached m ρ K (pe s.val c) .bar); iexact Hrec
  iintro HO
  iapply Hk
  iexists W; iexact HO

/-- The barrier wait hands over all the landing slots device `c` sends into; the barrier cell is done with. -/
theorem wp_barwait (c : Dev nD) {u : ℤ} (hu : u = ((3 : ℕ) : ℤ))
    {α : Type} {kk : PUnit → Prog (TpuEff nD τ sig (Elt F) Λ₀ .tc) α} {Q : α → sProp 𝕄} :
    iprop(records m ρ K ∗ cred (tallyAt (kcell c .bar) () 3) ∗ ow c sendL ∗ levAts L lv ∗ atPos ER (kcell c .bar) 0 ∅ 0)
      ⊢ iprop(((barPay c 0 ∗ barPay c 1 ∗ barPay c 2 ∗ semVal (kcell c .bar) 0 ∗ ow c sendL) -∗ WP c (kk ⟨⟩) Q)
        -∗ WP c (.op (.semWait barS u) kk) Q) := by
  subst hu
  unfold ow
  iintro ⟨#Hrec, Hc, ⟨%W, HO⟩, #Hlev, Hat⟩ Hk
  ihave #Hinv := (rec_inv m ρ K c .bar) $$ Hrec
  iapply (Rounds.wp_wait_rest_token 𝒱₀ ER (rd m ρ) (c : Thread nD τ) none (κ := K (c, .bar)) (sm := csem .bar)
      (wpE_semWait_eq 𝒱₀ (c : Thread nD τ) none Set.univ) (Set.mem_univ _) () (O := oweL c sendL) (W := W) (R := 0) (m := 0) (T := ∅)
      (by rw [expect_bar])) $$ [Hc HO Hat]
  · isplitr; · iexact Hinv
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (rd m ρ) (Set.mem_univ (K (c, .bar))) (fun h => h) (R := 0 + 1) (duties_later m ρ (kcell c .bar))) $$ [Hat] with Hz
  · isplitr; · iexact Hinv
    iexact Hat
  icases Hp with ⟨H0, H1, H2⟩
  iapply Hk
  isplitl [H0]; · iexact H0
  isplitl [H1]; · iexact H1
  isplitl [H2]; · iexact H2
  isplitl [Hz]; · iexact Hz
  iexists _; iexact HO

/-! ## The sends -/

section Send
variable {s s' : Shape} {e : EltTy}

/-- A transfer of a whole slot into another device's slot leaves there what the sent slot held. -/
theorem slab_of_landing (c d : Dev nD) (A B : Memref sig .tc .vmem s e) (r : Rect s) (h : s'.numel = r.shape.numel) (X : r.shape.Idx → Elt F e)
    (f : Buf (Elt F) (B.view.loc (d : Thread nD τ))) (g : Buf (Elt F) (A.view.loc (c : Thread nD τ))) (hg : (A.view.slice r).read (Elt F) g = X) :
    (B.view.loc (d : Thread nD τ) ↦[((B.view.slice r).reshape s' h).set]{fullShare}
      ((B.view.slice r).reshape s' h).write (Elt F) f (((A.view.slice r).reshape s' h).read (Elt F) g) Finset.univ : sProp 𝕄)
      ⊢ slab d B r X := by
  have e : reidx h (((A.view.slice r).reshape s' h).read (Elt F) g) = X := by
    rw [read_reshape, hg]; exact reidx_reshape h X
  have := slab_of_write (F := F) d B r h f (((A.view.slice r).reshape s' h).read (Elt F) g)
  rw [e] at this; exact this

end Send

theorem wp_sendB (c n : Dev nD) (b : Fin 8) (l : List Tgt) (hn : n = dB b c) {hsc h1 h2 h3}
    {α : Type} {kk : PUnit → Prog (TpuEff nD τ sig (Elt F) Λ₀ .tc) α} {Q : α → sProp 𝕄} :
    iprop(records m ρ K ∗ slab c sB (bR b) (k0_pay1 (wv m c (dB b c) (jB b)) (xs m ρ c)) ∗ junk (dB b c) rB (bR b) ∗ ow c (.bf b :: l)
        ∗ dutyTok ER (kcell c (.bs b)) 0 0 ∗ dutyTok ER (kcell (dB b c) (.br b)) 0 0)
      ⊢ iprop(((cred (tallyAt (kcell c (.bs b)) () NB) ∗ ow c l) -∗ WP c (kk ⟨⟩) Q)
        -∗ WP c (.op (.enqueueDma (sBq b) (.remote (Dev.tc n) (rBq b) (.dma (bsS b)) hsc) (.dma (brS b)) h1 h2 h3) kk) Q) := by
  subst hn
  unfold ow
  rw [oweL_cons]
  iintro ⟨#Hrec, Hs, Hj, ⟨%W, HO⟩, Ht1, Ht2⟩ Hk
  ihave Hj' := (junk_open (dB b c) rB (bR b)) $$ Hj
  icases Hj' with ⟨%f, Hf⟩
  unfold slab
  icases Hs with ⟨%g, %hg, Hg⟩
  iapply (Rounds.wp_send_pointsTo 𝒱₀ ER (rd m ρ) (c : Thread nD τ) none (c' := (dB b c : Thread nD τ)) (src := sBq b) (dst := rBq b)
    (sS := csem (.bs b)) (sem := csem (.br b)) (q := fullShare) (fs := g) (fd := f)
    (κ₁ := K (c, .bs b)) (κ₂ := K (dB b c, .br b)) (r₁ := 0) (r₂ := 0) (d₁ := 0) (d₂ := 0)
    (by rw [duties_cell m ρ c (.bs b)]; exact Finset.mem_singleton_self _) (by rw [duties_cell m ρ (dB b c) (.br b)]; exact Finset.mem_singleton_self _)
    () () NB rfl (amount_cell m ρ c (.bs b) 0 0) (amount_cell m ρ (dB b c) (.br b) 0 0) (oweL c l) rfl (W := W)
    (by rw [payload_cell m ρ c (.bs b), View.set_reshape]; exact junk_of_pts c sB (bR b) g)
    (by
      rw [payload_cell m ρ (dB b c) (.br b)]
      show _ ⊢ slab (dB b c) rB (bR b) (landB m ρ (dB b c) b)
      unfold landB; rw [srcB_dB]
      exact slab_of_landing c (dB b c) sB rB (bR b) squeezes_S1x1024x512_S1024x512.numel_eq _ f g hg)) $$ [Hf Hg HO Ht1 Ht2]
  · isplitr; · iapply (rec_inv m ρ K c (.bs b)); iexact Hrec
    isplitr; · iapply (rec_inv m ρ K (dB b c) (.br b)); iexact Hrec
    isplitl [Hg]; · rw [View.set_reshape]; iexact Hg
    isplitl [Hf]; · rw [View.set_reshape]; iexact Hf
    isplitl [HO]; · iexact HO
    isplitl [Ht1]; · iexact Ht1
    isplitr; · iapply (rec_reached m ρ K c (.bs b)); iexact Hrec
    isplitl [Ht2]; · iexact Ht2
    iapply (rec_reached m ρ K (dB b c) (.br b)); iexact Hrec
  iintro ⟨Hc, HO⟩
  iapply Hk
  isplitl [Hc]; · iexact Hc
  iexists _; iexact HO

theorem wp_sendF (c n : Dev nD) (j : Fin 4) (l : List Tgt) (hn : n = pe 2 c) {hsc h1 h2 h3}
    {α : Type} {kk : PUnit → Prog (TpuEff nD τ sig (Elt F) Λ₀ .tc) α} {Q : α → sProp 𝕄} :
    iprop(records m ρ K ∗ slab c sF (fR j) (k0_pay2 (wv m c (pe 2 c) j) (xs m ρ c)) ∗ junk (pe 2 c) rF (fR j) ∗ ow c (.f8 j :: l)
        ∗ dutyTok ER (kcell c (.fs j)) 0 0 ∗ dutyTok ER (kcell (pe 2 c) (.fr j)) 0 0)
      ⊢ iprop(((cred (tallyAt (kcell c (.fs j)) () NF) ∗ ow c l) -∗ WP c (kk ⟨⟩) Q)
        -∗ WP c (.op (.enqueueDma (sFq j) (.remote (Dev.tc n) (rFq j) (.dma (fsS j)) hsc) (.dma (frS j)) h1 h2 h3) kk) Q) := by
  subst hn
  unfold ow
  rw [oweL_cons]
  iintro ⟨#Hrec, Hs, Hj, ⟨%W, HO⟩, Ht1, Ht2⟩ Hk
  ihave Hj' := (junk_open (pe 2 c) rF (fR j)) $$ Hj
  icases Hj' with ⟨%f, Hf⟩
  unfold slab
  icases Hs with ⟨%g, %hg, Hg⟩
  iapply (Rounds.wp_send_pointsTo 𝒱₀ ER (rd m ρ) (c : Thread nD τ) none (c' := (pe 2 c : Thread nD τ)) (src := sFq j) (dst := rFq j)
    (sS := csem (.fs j)) (sem := csem (.fr j)) (q := fullShare) (fs := g) (fd := f)
    (κ₁ := K (c, .fs j)) (κ₂ := K (pe 2 c, .fr j)) (r₁ := 0) (r₂ := 0) (d₁ := 0) (d₂ := 0)
    (by rw [duties_cell m ρ c (.fs j)]; exact Finset.mem_singleton_self _) (by rw [duties_cell m ρ (pe 2 c) (.fr j)]; exact Finset.mem_singleton_self _)
    () () NF rfl (amount_cell m ρ c (.fs j) 0 0) (amount_cell m ρ (pe 2 c) (.fr j) 0 0) (oweL c l) rfl (W := W)
    (by rw [payload_cell m ρ c (.fs j), View.set_reshape]; exact junk_of_pts c sF (fR j) g)
    (by
      rw [payload_cell m ρ (pe 2 c) (.fr j)]
      show _ ⊢ slab (pe 2 c) rF (fR j) (landF m ρ (pe 2 c) j)
      unfold landF; rw [pe_2_2]
      exact slab_of_landing c (pe 2 c) sF rF (fR j) squeezes_S1x1024x512_S1024x512.numel_eq _ f g hg)) $$ [Hf Hg HO Ht1 Ht2]
  · isplitr; · iapply (rec_inv m ρ K c (.fs j)); iexact Hrec
    isplitr; · iapply (rec_inv m ρ K (pe 2 c) (.fr j)); iexact Hrec
    isplitl [Hg]; · rw [View.set_reshape]; iexact Hg
    isplitl [Hf]; · rw [View.set_reshape]; iexact Hf
    isplitl [HO]; · iexact HO
    isplitl [Ht1]; · iexact Ht1
    isplitr; · iapply (rec_reached m ρ K c (.fs j)); iexact Hrec
    isplitl [Ht2]; · iexact Ht2
    iapply (rec_reached m ρ K (pe 2 c) (.fr j)); iexact Hrec
  iintro ⟨Hc, HO⟩
  iapply Hk
  isplitl [Hc]; · iexact Hc
  iexists _; iexact HO

/-! ## The waits for a device's own transfer cells -/

/-- Once nothing is owed any more, the wait for a send or a receive cell hands over what the transfer delivers; the
    cell is done with. -/
theorem wp_cellwait (c : Dev nD) (k : Cell) (q : DmaSem sig) (hq : csem k = .dma q) (hk : dutK (some k) = {0}) {sp sp' : Space} {s s' : Shape} {e e' : EltTy}
    {srcw : Memref sig .tc sp s e} {dstw : Memref sig .tc sp' s' e'} (hN : dstw.view.dmaCredit = amtK (some k)) {h1 h2}
    {α : Type} {kk : PUnit → Prog (TpuEff nD τ sig (Elt F) Λ₀ .tc) α} {Q : α → sProp 𝕄} :
    iprop(records m ρ K ∗ cred (tallyAt (kcell c k) () (amtK (some k))) ∗ ow c [] ∗ levAts L lv ∗ atPos ER (kcell c k) 0 ∅ 0)
      ⊢ iprop(((payK m ρ c (some k) 0 ∗ semVal (kcell c k) 0 ∗ ow c []) -∗ WP c (kk ⟨⟩) Q)
        -∗ WP c (.op (.waitDma2 q srcw dstw h1 h2) kk) Q) := by
  unfold ow
  iintro ⟨#Hrec, Hc, ⟨%W, HO⟩, #Hlev, Hat⟩ Hk
  ihave #Hinv := (rec_inv m ρ K c k) $$ Hrec
  iapply (Rounds.wp_wait_rest_token 𝒱₀ ER (rd m ρ) (c : Thread nD τ) none (κ := K (c, k)) (sm := csem k) (k' := amtK (some k))
      (fun K' => (wpE_waitDma2_eq 𝒱₀ (c : Thread nD τ) none Set.univ K').trans (by rw [hq, hN])) (Set.mem_univ _) () (O := oweL c []) (W := W) (R := 0) (m := 0) (T := ∅)
      (by rw [expect_xfer m ρ c k hk, Nat.zero_add])) $$ [Hc HO Hat]
  · isplitr; · iexact Hinv
    isplitl [Hc]; · iexact Hc
    isplitl [HO]; · iexact HO
    isplitr; · iapply (mayWait_none c (csem k)); iexact Hlev
    iexact Hat
  iintro ⟨HO, Hat, -, Hpay⟩
  ihave Hp := (Entails.of_eq (rest_xfer m ρ c k hk)) $$ Hpay
  imod (Rounds.cell_close ER (rd m ρ) (Set.mem_univ (K (c, k))) (fun h => h) (R := 0 + 1) (duties_later m ρ (kcell c k))) $$ [Hat] with Hz
  · isplitr; · iexact Hinv
    iexact Hat
  iapply Hk
  isplitl [Hp]; · iexact Hp
  isplitl [Hz]; · iexact Hz
  iexists _; iexact HO

/-! ## The write-backs -/

/-- What the kernel writes to row block `o` and column block `j` of device `c`'s result: for its own rows the value
    itself, for another device's rows what landed from there, widened. -/
def outX (c : Dev nD) (o j : Fin 4) : Vec F S1x1024x512 .f32 :=
  if o = c then k0_pay13 (wv m c c j) (xs m ρ c)
  else if o = pe 1 c then k0_pay22 (landB m ρ c ⟨j.val, by omega⟩)
  else if o = pe 2 c then k0_pay23 (landF m ρ c j)
  else k0_pay22 (landB m ρ c ⟨4 + j.val, by omega⟩)

theorem row_lt (i : S4096x2048.Idx) : (i 0).val / 1024 < 4 := by have h : (i 0).val < 4096 := (i 0).isLt; omega
theorem col_lt (i : S4096x2048.Idx) : (i 1).val / 512 < 4 := by have h : (i 1).val < 2048 := (i 1).isLt; omega

/-- The position with the two given coordinates, in a tile. -/
def tix (a b : ℕ) (ha : a < 1024) (hb : b < 512) : S1024x512.Idx := fun d => match d with | ⟨0, _⟩ => ⟨a, ha⟩ | ⟨1, _⟩ => ⟨b, hb⟩

/-- Device `c`'s result, whole: each position read in its tile. -/
def outF (c : Dev nD) : Buf (Elt F) (oM.view.loc (c : Thread nD τ)) := fun i : S4096x2048.Idx =>
  outX m ρ c ⟨(i 0).val / 1024, row_lt i⟩ ⟨(i 1).val / 512, col_lt i⟩
    (Shape.reshapeEquiv (s := S1x1024x512) (s' := S1024x512) squeezes_S1x1024x512_S1024x512.numel_eq
      (tix ((i 0).val % 1024) ((i 1).val % 512) (Nat.mod_lt _ (by decide)) (Nat.mod_lt _ (by decide))))

/-- Device `c` holds a tile of the result, with the contents of `f` in it. -/
def tile (c : Dev nD) (o j : Fin 4) (f : Buf (Elt F) (oM.view.loc (c : Thread nD τ))) : sProp 𝕄 :=
  oM.view.loc (c : Thread nD τ) ↦[(oM.view.slice (tR o j)).set]{fullShare} f

theorem outF_at (c : Dev nD) (o j : Fin 4) (y : S1024x512.Idx) (i : S4096x2048.Idx) (e0 : (i 0).val = 1024 * o.val + (y 0).val)
    (e1 : (i 1).val = 512 * j.val + (y 1).val) :
    outF m ρ c i = outX m ρ c o j (Shape.reshapeEquiv (s := S1x1024x512) (s' := S1024x512) squeezes_S1x1024x512_S1024x512.numel_eq y) := by
  have h0 : (y 0).val < 1024 := (y 0).isLt
  have h1 : (y 1).val < 512 := (y 1).isLt
  unfold outF
  have ho : (⟨(i 0).val / 1024, row_lt _⟩ : Fin 4) = o := Fin.ext (show (i 0).val / 1024 = o.val by omega)
  have hj : (⟨(i 1).val / 512, col_lt _⟩ : Fin 4) = j := Fin.ext (show (i 1).val / 512 = j.val by omega)
  have hy : tix ((i 0).val % 1024) ((i 1).val % 512) (Nat.mod_lt _ (by decide)) (Nat.mod_lt _ (by decide)) = y := by
    funext d
    match d with
    | ⟨0, _⟩ => exact Fin.ext (show (i 0).val % 1024 = (y 0).val by omega)
    | ⟨1, _⟩ => exact Fin.ext (show (i 1).val % 512 = (y 1).val by omega)
  rw [ho, hj, hy]

/-- What `outF` holds at a position of a tile. -/
theorem outF_tile (c : Dev nD) (o j : Fin 4) (y : S1024x512.Idx) :
    outF m ρ c ((oM.view.slice (tR o j)).emb y)
      = outX m ρ c o j (Shape.reshapeEquiv (s := S1x1024x512) (s' := S1024x512) squeezes_S1x1024x512_S1024x512.numel_eq y) :=
  outF_at m ρ c o j y _ (by show 1024 * o.val + 1 * (y 0).val = _; rw [one_mul]) (by show 512 * j.val + 1 * (y 1).val = _; rw [one_mul])

/-- Writing `outX`'s values over a tile makes it hold the contents of `outF`. -/
theorem tile_written (c : Dev nD) (o j : Fin 4) (f : Buf (Elt F) (oM.view.loc (c : Thread nD τ))) (w : S1024x512.Idx → Elt F .f32)
    (hw : ∀ y, w y = outX m ρ c o j (Shape.reshapeEquiv (s := S1x1024x512) (s' := S1024x512) squeezes_S1x1024x512_S1024x512.numel_eq y)) :
    (oM.view.loc (c : Thread nD τ) ↦[(oM.slice (tR o j) (fun _ => rfl)).view.set]{fullShare}
      (oM.slice (tR o j) (fun _ => rfl)).view.write (Elt F) f w Finset.univ : sProp 𝕄) ⊢ tile c o j (outF m ρ c) := by
  unfold tile
  refine Entails.of_eq (pointsTo_congr fun i hi => ?_)
  obtain ⟨y, -, rfl⟩ := Finset.mem_map.mp hi
  rw [outF_tile, ← hw]
  exact View.write_emb_of_mem (Val := Elt F) (v := (oM.slice (tR o j) (fun _ => rfl)).view) f w (Finset.mem_univ y)

/-- The tile is on its way out of slot `k` of the staging buffer. -/
def oFl (c : Dev nD) (k : Fin 2) (o j : Fin 4) : sProp 𝕄 :=
  Transfers.Flight EC (c : Thread nD τ) (.dma (oSm k)) () NO iprop(tile c o j (outF m ρ c) ∗ junk c oS (oR k))

theorem junk_of_sq (c : Dev nD) (k : Fin 2) (g : Buf (Elt F) (oS.view.loc (c : Thread nD τ))) :
    ((oSq k).view.loc (c : Thread nD τ) ↦[(oSq k).view.set]{fullShare} g : sProp 𝕄) ⊢ junk c oS (oR k) := by
  rw [View.set_reshape]; exact junk_of_pts c oS (oR k) g

theorem wp_putout (c : Dev nD) (k : Fin 2) (o j : Fin 4) (X : (oR k).shape.Idx → Elt F .f32) (hX : X = outX m ρ c o j)
    (f : Buf (Elt F) (oM.view.loc (c : Thread nD τ))) {off : Fin 2 → ℕ} (hoff : off = ![1024 * o.val, 512 * j.val]) {inb}
    {hr} {h1 h2 h3} {α : Type} {kk : PUnit → Prog (TpuEff nD τ sig (Elt F) Λ₀ .tc) α} {Q : α → sProp 𝕄} :
    iprop(slab c oS (oR k) X ∗ tile c o j f ∗ semVal ((c : Thread nD τ), .dma (oSm k)) 0)
      ⊢ iprop((oFl m ρ c k o j -∗ WP c (kk ⟨⟩) Q)
        -∗ WP c (.op (.enqueueDma (oSq k) (.here (oM.slice (Rect.unit (s := S4096x2048) off S1024x512.size inb) hr)) (.dma (oSm k)) h1 h2 h3) kk) Q) := by
  subst hoff hX
  unfold oFl
  iintro ⟨Hs, Ht, Hv⟩ Hk
  unfold slab
  icases Hs with ⟨%g, %hg, Hg⟩
  iapply (Transfers.wp_dmaLocal EC 𝒱₀ (c : Thread nD τ) none (src := oSq k) (dst := oM.slice (tR o j) (fun _ => rfl))
    (q := fullShare) (fs := g) (Sd := (oM.slice (tR o j) (fun _ => rfl)).view.set) (fd := f) () NO rfl NO_pos (Finset.Subset.refl _)) $$ [Hg Ht Hv]
  · isplitl [Hg]; · rw [View.set_reshape]; iexact Hg
    isplitl [Ht]; · unfold tile; iexact Ht
    iexact Hv
  iintro Hfl
  iapply Hk
  iapply (Transfers.Flight_mono EC (c : Thread nD τ) (BIClass.sep_mono
    (tile_written m ρ c o j f ((oSq k).view.read (Elt F) g) fun y => by rw [← hg]; rfl)
    (junk_of_sq c k g)))
  iexact Hfl

/-- The wait for a tile's write-back. -/
theorem wp_owait (c : Dev nD) (k : Fin 2) (o j : Fin 4) (l : List Tgt) {sp sp' : Space} {s s' : Shape} {e e' : EltTy}
    {srcw : Memref sig .tc sp s e} {dstw : Memref sig .tc sp' s' e'} (hN : dstw.view.dmaCredit = NO) {h1 h2} {α : Type}
    {kk : PUnit → Prog (TpuEff nD τ sig (Elt F) Λ₀ .tc) α} {Q : α → sProp 𝕄} :
    iprop(oFl m ρ c k o j ∗ ow c l ∗ levAts L lv)
      ⊢ iprop(((tile c o j (outF m ρ c) ∗ junk c oS (oR k) ∗ semVal ((c : Thread nD τ), .dma (oSm k)) 0 ∗ ow c l) -∗ WP c (kk ⟨⟩) Q)
        -∗ WP c (.op (.waitDma2 (oSm k) srcw dstw h1 h2) kk) Q) := by
  unfold oFl ow
  iintro ⟨Hfl, ⟨%W, HO⟩, #Hlev⟩ Hk
  iapply (Transfers.wp_waitLocalO EC 𝒱₀ (c : Thread nD τ) none (srcw := srcw) (dstw := dstw) (hsrc := h1) (hdst := h2) () (N := NO) hN) $$ [Hfl HO]
  · isplitl [Hfl]; · iexact Hfl
    isplitl [HO]; · iexact HO
    iapply (mayWait_low c (.dma (oSm k)) (congrArg lvK (kindOf_o k)) l); iexact Hlev
  iintro ⟨⟨Hs, Hw⟩, Hv, HO⟩
  iapply Hk
  isplitl [Hs]; · iexact Hs
  isplitl [Hw]; · iexact Hw
  isplitl [Hv]; · iexact Hv
  iexists _; iexact HO

end Cert.A2A

end
-- ==== Proof.Steps3.lean ====
/-
# `Steps3`: the kernel's steps

One rule for each kind of step the kernel repeats: a block of values computed and sent, a block of its own rows
computed and written back, a landed block widened and written back, the wait for a send.
-/
module

public import proofs.«01_k».proof.Proof.Steps2

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-! ## What a device holds between its steps -/

/-- Device `c` waits for its transfer cell `k`: the credit the transfer brings, and its place in the cell's round. -/
def waitT (c : Dev nD) (k : Cell) : sProp 𝕄 :=
  iprop(cred (tallyAt (kcell c k) () (amtK (some k))) ∗ atPos ER (kcell c k) 0 ∅ 0)
/-- The slot the transfer cell `k` is about, -/
def heldK (c : Dev nD) : Cell → sProp 𝕄
  | .bar => iprop(emp)
  | .bs b => junk c sB (bR b)
  | .fs j => junk c sF (fR j)
  | .br b => junk c rB (bR b)
  | .fr j => junk c rF (fR j)
/-- and with it the cell's counter, at zero, once the cell is done with. -/
def doneT (c : Dev nD) (k : Cell) : sProp 𝕄 := iprop(heldK c k ∗ semVal (kcell c k) 0)

/-- What sending slot `b` needs on device `c`; -/
def sndB (c : Dev nD) (b : Fin 8) : sProp 𝕄 :=
  iprop(junk c sB (bR b) ∗ atPos ER (kcell c (.bs b)) 0 ∅ 0 ∗ dutyTok ER (kcell c (.bs b)) 0 0 ∗ dutyTok ER (kcell (dB b c) (.br b)) 0 0)
/-- sending slot `j` of the float8 sends. -/
def sndF (c : Dev nD) (j : Fin 4) : sProp 𝕄 :=
  iprop(junk c sF (fR j) ∗ atPos ER (kcell c (.fs j)) 0 ∅ 0 ∗ dutyTok ER (kcell c (.fs j)) 0 0 ∗ dutyTok ER (kcell (pe 2 c) (.fr j)) 0 0)

/-- Slot `k` of the weights' buffer is idle; slot `k` of the staging buffer of the result is idle. -/
def wIdle (c : Dev nD) (k : Fin 2) : sProp 𝕄 := iprop(junk c wb (wR k) ∗ semVal ((c : Thread nD τ), .dma (wS k)) 0)
def oIdle (c : Dev nD) (k : Fin 2) : sProp 𝕄 := iprop(junk c oS (oR k) ∗ semVal ((c : Thread nD τ), .dma (oSm k)) 0)

theorem credit_o (off : Fin 2 → ℕ) (inb) (hr) : (oM.slice (Rect.unit (s := S4096x2048) off S1024x512.size inb) hr).view.dmaCredit = NO := by rfl
theorem credit_rB (b : Fin 8) : (rBq b).view.dmaCredit = NB := by rfl
theorem credit_rF (j : Fin 4) : (rFq j).view.dmaCredit = NF := by rfl

variable {α : Type} {Q : α → sProp (MT nD τ sig Unit (Elt F) ℕ UU ℕ)}

/-- The first fetches. -/
theorem wp_fetch0 (c : Dev nD) (k : Fin 2) (d : Dev nD) (j : Fin 4) {off : Fin 2 → ℕ} (hoff : off = ![0, 2048 * d.val + 512 * j.val]) {inb}
    {hr} {h1 h2 h3} {kk : PUnit → Prog (TpuEff nD τ sig (Elt F) Λ₀ .tc) α} :
    iprop(wIdle c k ∗ wcol m c d j)
      ⊢ iprop((wFl m c k d j -∗ WP c (kk ⟨⟩) Q)
        -∗ WP c (.op (.enqueueDma (wM.slice (Rect.unit (s := S4096x8192) off S4096x512.size inb) hr) (.here (wSq k)) (.dma (wS k)) h1 h2 h3) kk) Q) := by
  unfold wIdle
  iintro ⟨⟨Hj, Hv⟩, Hw⟩ Hk
  iapply (wp_fetch m c k d j hoff) $$ [Hj Hw Hv]
  · isplitl [Hj]; · iexact Hj
    isplitl [Hw]; · iexact Hw
    iexact Hv
  iexact Hk

/-- A block of values is computed and sent as slot `b` of the bfloat16 sends, and the next block of weights is fetched. -/
theorem wp_stepB (c : Dev nD) (k : Fin 2) (b : Fin 8) (d n : Dev nD) (j : Fin 4) (d' : Dev nD) (j' : Fin 4) (l : List Tgt) (hd : d = dB b c) (hj : j = jB b) (hn : n = d)
    (pay : Vec F S1x4096x512 .f32 → Vec F S1024x4096 .bf16 → FVec F S1x1024x512 .bf16) (hp : pay = k0_pay1)
    {off : Fin 2 → ℕ} (hoff : off = ![0, 2048 * d'.val + 512 * j'.val]) {inb}
    {sp : Space} {s : Shape} {e : EltTy} {srcw : Memref sig .tc sp s e} {h1 h2 hl hl' hl'' hx hm hsc g1 g2 g3 hr f1 f2 f3}
    {kk : PUnit → Prog (TpuEff nD τ sig (Elt F) Λ₀ .tc) α} :
    iprop(records m ρ K ∗ levAts L lv ∗ wFl m c k d j ∗ ow c (.bf b :: l) ∗ xPts m ρ c ∗ sndB c b ∗ junk d rB (bR b) ∗ wcol m c d' j')
      ⊢ iprop(((wFl m c k d' j' ∗ wcol m c d j ∗ ow c l ∗ xPts m ρ c ∗ waitT c (.bs b)) -∗ WP c (kk ⟨⟩) Q)
        -∗ WP c (.op (.waitDma2 (wS k) srcw (wSq k) h1 h2) fun _ => .op (.load wb (wR k).toLoadRect hl) fun v =>
            .op (.load xM xR.toLoadRect hl') fun x => .op (.load sB (bR b).toLoadRect hl'') fun _ => .op (.store sB (bR b) (pay v x) Finset.univ hx hm) fun _ =>
            .op (.enqueueDma (sBq b) (.remote (Dev.tc n) (rBq b) (.dma (bsS b)) hsc) (.dma (brS b)) g1 g2 g3) fun _ =>
            .op (.enqueueDma (wM.slice (Rect.unit (s := S4096x8192) off S4096x512.size inb) hr) (.here (wSq k)) (.dma (wS k)) f1 f2 f3) kk) Q) := by
  subst hp hn hd hj
  unfold sndB
  iintro ⟨#Hrec, #Hlev, Hfl, HO, Hx, ⟨Hj, Hat, Ht1, Ht2⟩, Hd, Hw'⟩ Hk
  iapply (wp_pre m ρ c k (dB b c) (jB b) (.bf b :: l)) $$ [Hfl HO Hx]
  · isplitl [Hfl]; · iexact Hfl
    isplitl [HO]; · iexact HO
    isplitr; · iexact Hlev
    iexact Hx
  iintro ⟨Hs, Hw, Hv, HO, Hx⟩
  iapply (wp_put c sB (bR b) (k0_pay1 (wv m c (dB b c) (jB b)) (xs m ρ c))) $$ Hj
  iintro Hj
  iapply (wp_sendB m ρ K c (dB b c) b l rfl) $$ [Hj Hd HO Ht1 Ht2]
  · isplitr; · iexact Hrec
    isplitl [Hj]; · iexact Hj
    isplitl [Hd]; · iexact Hd
    isplitl [HO]; · iexact HO
    isplitl [Ht1]; · iexact Ht1
    iexact Ht2
  iintro ⟨Hc, HO⟩
  iapply (wp_fetch m c k d' j' hoff) $$ [Hs Hw' Hv]
  · isplitl [Hs]; · iexact Hs
    isplitl [Hw']; · iexact Hw'
    iexact Hv
  iintro Hfl
  iapply Hk
  isplitl [Hfl]; · iexact Hfl
  isplitl [Hw]; · iexact Hw
  isplitl [HO]; · iexact HO
  isplitl [Hx]; · iexact Hx
  unfold waitT
  isplitl [Hc]; · iexact Hc
  iexact Hat

/-- The same for slot `j` of the float8 sends. -/
theorem wp_stepF (c : Dev nD) (k : Fin 2) (n : Dev nD) (j : Fin 4) (d' : Dev nD) (j' : Fin 4) (l : List Tgt) (hn : n = pe 2 c)
    (pay : Vec F S1x4096x512 .f32 → Vec F S1024x4096 .bf16 → FVec F S1x1024x512 .fp8e4m3) (hp : pay = k0_pay2)
    {off : Fin 2 → ℕ} (hoff : off = ![0, 2048 * d'.val + 512 * j'.val]) {inb}
    {sp : Space} {s : Shape} {e : EltTy} {srcw : Memref sig .tc sp s e} {h1 h2 hl hl' hl'' hx hm hsc g1 g2 g3 hr f1 f2 f3}
    {kk : PUnit → Prog (TpuEff nD τ sig (Elt F) Λ₀ .tc) α} :
    iprop(records m ρ K ∗ levAts L lv ∗ wFl m c k (pe 2 c) j ∗ ow c (.f8 j :: l) ∗ xPts m ρ c ∗ sndF c j ∗ junk (pe 2 c) rF (fR j) ∗ wcol m c d' j')
      ⊢ iprop(((wFl m c k d' j' ∗ wcol m c (pe 2 c) j ∗ ow c l ∗ xPts m ρ c ∗ waitT c (.fs j)) -∗ WP c (kk ⟨⟩) Q)
        -∗ WP c (.op (.waitDma2 (wS k) srcw (wSq k) h1 h2) fun _ => .op (.load wb (wR k).toLoadRect hl) fun v =>
            .op (.load xM xR.toLoadRect hl') fun x => .op (.load sF (fR j).toLoadRect hl'') fun _ => .op (.store sF (fR j) (pay v x) Finset.univ hx hm) fun _ =>
            .op (.enqueueDma (sFq j) (.remote (Dev.tc n) (rFq j) (.dma (fsS j)) hsc) (.dma (frS j)) g1 g2 g3) fun _ =>
            .op (.enqueueDma (wM.slice (Rect.unit (s := S4096x8192) off S4096x512.size inb) hr) (.here (wSq k)) (.dma (wS k)) f1 f2 f3) kk) Q) := by
  subst hp hn
  unfold sndF
  iintro ⟨#Hrec, #Hlev, Hfl, HO, Hx, ⟨Hj, Hat, Ht1, Ht2⟩, Hd, Hw'⟩ Hk
  iapply (wp_pre m ρ c k (pe 2 c) j (.f8 j :: l)) $$ [Hfl HO Hx]
  · isplitl [Hfl]; · iexact Hfl
    isplitl [HO]; · iexact HO
    isplitr; · iexact Hlev
    iexact Hx
  iintro ⟨Hs, Hw, Hv, HO, Hx⟩
  iapply (wp_put c sF (fR j) (k0_pay2 (wv m c (pe 2 c) j) (xs m ρ c))) $$ Hj
  iintro Hj
  iapply (wp_sendF m ρ K c (pe 2 c) j l rfl) $$ [Hj Hd HO Ht1 Ht2]
  · isplitr; · iexact Hrec
    isplitl [Hj]; · iexact Hj
    isplitl [Hd]; · iexact Hd
    isplitl [HO]; · iexact HO
    isplitl [Ht1]; · iexact Ht1
    iexact Ht2
  iintro ⟨Hc, HO⟩
  iapply (wp_fetch m c k d' j' hoff) $$ [Hs Hw' Hv]
  · isplitl [Hs]; · iexact Hs
    isplitl [Hw']; · iexact Hw'
    iexact Hv
  iintro Hfl
  iapply Hk
  isplitl [Hfl]; · iexact Hfl
  isplitl [Hw]; · iexact Hw
  isplitl [HO]; · iexact HO
  isplitl [Hx]; · iexact Hx
  unfold waitT
  isplitl [Hc]; · iexact Hc
  iexact Hat

theorem outX_own (c : Dev nD) (j : Fin 4) : outX m ρ c c j = k0_pay13 (wv m c c j) (xs m ρ c) := by unfold outX; rw [if_pos rfl]

/-- A block of the device's own rows is computed and starts on its way out, and the next block of weights is fetched. -/
theorem wp_ownA (c : Dev nD) (k : Fin 2) (j : Fin 4) (d' : Dev nD) (j' : Fin 4) (l : List Tgt)
    (pay : Vec F S1x4096x512 .f32 → Vec F S1024x4096 .bf16 → Vec F S1x1024x512 .f32) (hp : pay = k0_pay13) (f : Buf (Elt F) (oM.view.loc (c : Thread nD τ)))
    {off : Fin 2 → ℕ} (hoff : off = ![0, 2048 * d'.val + 512 * j'.val]) {inb} {off' : Fin 2 → ℕ} (hoff' : off' = ![1024 * c.val, 512 * j.val]) {inb'}
    {sp : Space} {s : Shape} {e : EltTy} {srcw : Memref sig .tc sp s e} {h1 h2 hl hl' hl'' hx hm hr' g1 g2 g3 hr f1 f2 f3}
    {kk : PUnit → Prog (TpuEff nD τ sig (Elt F) Λ₀ .tc) α} :
    iprop(levAts L lv ∗ wFl m c k c j ∗ ow c l ∗ xPts m ρ c ∗ oIdle c k ∗ tile c c j f ∗ wcol m c d' j')
      ⊢ iprop(((wFl m c k d' j' ∗ wcol m c c j ∗ ow c l ∗ xPts m ρ c ∗ oFl m ρ c k c j) -∗ WP c (kk ⟨⟩) Q)
        -∗ WP c (.op (.waitDma2 (wS k) srcw (wSq k) h1 h2) fun _ => .op (.load wb (wR k).toLoadRect hl) fun v =>
            .op (.load xM xR.toLoadRect hl') fun x => .op (.load oS (oR k).toLoadRect hl'') fun _ => .op (.store oS (oR k) (pay v x) Finset.univ hx hm) fun _ =>
            .op (.enqueueDma (oSq k) (.here (oM.slice (Rect.unit (s := S4096x2048) off' S1024x512.size inb') hr')) (.dma (oSm k)) g1 g2 g3) fun _ =>
            .op (.enqueueDma (wM.slice (Rect.unit (s := S4096x8192) off S4096x512.size inb) hr) (.here (wSq k)) (.dma (wS k)) f1 f2 f3) kk) Q) := by
  subst hp
  unfold oIdle
  iintro ⟨#Hlev, Hfl, HO, Hx, ⟨Hj, Hov⟩, Ht, Hw'⟩ Hk
  iapply (wp_pre m ρ c k c j l) $$ [Hfl HO Hx]
  · isplitl [Hfl]; · iexact Hfl
    isplitl [HO]; · iexact HO
    isplitr; · iexact Hlev
    iexact Hx
  iintro ⟨Hs, Hw, Hv, HO, Hx⟩
  iapply (wp_put c oS (oR k) (k0_pay13 (wv m c c j) (xs m ρ c))) $$ Hj
  iintro Hj
  iapply (wp_putout m ρ c k c j _ (outX_own m ρ c j).symm f hoff') $$ [Hj Ht Hov]
  · isplitl [Hj]; · iexact Hj
    isplitl [Ht]; · iexact Ht
    iexact Hov
  iintro Ho
  iapply (wp_fetch m c k d' j' hoff) $$ [Hs Hw' Hv]
  · isplitl [Hs]; · iexact Hs
    isplitl [Hw']; · iexact Hw'
    iexact Hv
  iintro Hfl
  iapply Hk
  isplitl [Hfl]; · iexact Hfl
  isplitl [Hw]; · iexact Hw
  isplitl [HO]; · iexact HO
  isplitl [Hx]; · iexact Hx
  iexact Ho

/-- The last two own blocks: nothing is left to fetch, and the slot of the staging buffer is waited for first. -/
theorem wp_ownB (c : Dev nD) (k : Fin 2) (j : Fin 4) (o₁ j₁ : Fin 4) (l : List Tgt)
    (pay : Vec F S1x4096x512 .f32 → Vec F S1024x4096 .bf16 → Vec F S1x1024x512 .f32) (hp : pay = k0_pay13) (f : Buf (Elt F) (oM.view.loc (c : Thread nD τ)))
    {off' : Fin 2 → ℕ} (hoff' : off' = ![1024 * c.val, 512 * j.val]) {inb'}
    {sp sp₁ : Space} {s s₁ : Shape} {e e₁ : EltTy} {srcw : Memref sig .tc sp s e} {srcw₁ : Memref sig .tc sp₁ s₁ e₁} {off₁ : Fin 2 → ℕ} {inb₁ hr₁} {h1 h2 hl hl' a1 a2 hl'' hx hm hr' g1 g2 g3}
    {kk : PUnit → Prog (TpuEff nD τ sig (Elt F) Λ₀ .tc) α} :
    iprop(levAts L lv ∗ wFl m c k c j ∗ ow c l ∗ xPts m ρ c ∗ oFl m ρ c k o₁ j₁ ∗ tile c c j f)
      ⊢ iprop(((wIdle c k ∗ wcol m c c j ∗ ow c l ∗ xPts m ρ c ∗ tile c o₁ j₁ (outF m ρ c) ∗ oFl m ρ c k c j) -∗ WP c (kk ⟨⟩) Q)
        -∗ WP c (.op (.waitDma2 (wS k) srcw (wSq k) h1 h2) fun _ => .op (.load wb (wR k).toLoadRect hl) fun v =>
            .op (.load xM xR.toLoadRect hl') fun x => .op (.waitDma2 (oSm k) srcw₁ (oM.slice (Rect.unit (s := S4096x2048) off₁ S1024x512.size inb₁) hr₁) a1 a2) fun _ =>
            .op (.load oS (oR k).toLoadRect hl'') fun _ => .op (.store oS (oR k) (pay v x) Finset.univ hx hm) fun _ =>
            .op (.enqueueDma (oSq k) (.here (oM.slice (Rect.unit (s := S4096x2048) off' S1024x512.size inb') hr')) (.dma (oSm k)) g1 g2 g3) kk) Q) := by
  subst hp
  iintro ⟨#Hlev, Hfl, HO, Hx, Hof, Ht⟩ Hk
  iapply (wp_pre m ρ c k c j l) $$ [Hfl HO Hx]
  · isplitl [Hfl]; · iexact Hfl
    isplitl [HO]; · iexact HO
    isplitr; · iexact Hlev
    iexact Hx
  iintro ⟨Hs, Hw, Hv, HO, Hx⟩
  iapply (wp_owait m ρ c k o₁ j₁ l (credit_o off₁ inb₁ hr₁)) $$ [Hof HO]
  · isplitl [Hof]; · iexact Hof
    isplitl [HO]; · iexact HO
    iexact Hlev
  iintro ⟨Ht₁, Hj, Hov, HO⟩
  iapply (wp_put c oS (oR k) (k0_pay13 (wv m c c j) (xs m ρ c))) $$ Hj
  iintro Hj
  iapply (wp_putout m ρ c k c j _ (outX_own m ρ c j).symm f hoff') $$ [Hj Ht Hov]
  · isplitl [Hj]; · iexact Hj
    isplitl [Ht]; · iexact Ht
    iexact Hov
  iintro Ho
  iapply Hk
  isplitl [Hs Hv]
  · unfold wIdle
    isplitl [Hs]; · iexact Hs
    iexact Hv
  isplitl [Hw]; · iexact Hw
  isplitl [HO]; · iexact HO
  isplitl [Hx]; · iexact Hx
  isplitl [Ht₁]; · iexact Ht₁
  iexact Ho

/-- A landed block of the bfloat16 sends is widened and starts on its way out. -/
theorem wp_recvB (c : Dev nD) (k : Fin 2) (b : Fin 8) (o j o₁ j₁ : Fin 4) (hX : k0_pay22 (landB m ρ c b) = outX m ρ c o j)
    (pay : Vec F S1x1024x512 .bf16 → Vec F S1x1024x512 .f32) (hp : pay = k0_pay22) (f : Buf (Elt F) (oM.view.loc (c : Thread nD τ)))
    {off' : Fin 2 → ℕ} (hoff' : off' = ![1024 * o.val, 512 * j.val]) {inb'}
    {sp sp₁ : Space} {s s₁ : Shape} {e e₁ : EltTy} {srcw : Memref sig .tc sp s e}
    {srcw₁ : Memref sig .tc sp₁ s₁ e₁} {off₁ : Fin 2 → ℕ} {inb₁ hr₁}
    {h1 h2 hl a1 a2 hl'' hx hm hr' g1 g2 g3}
    {kk : PUnit → Prog (TpuEff nD τ sig (Elt F) Λ₀ .tc) α} :
    iprop(records m ρ K ∗ levAts L lv ∗ waitT c (.br b) ∗ ow c [] ∗ oFl m ρ c k o₁ j₁ ∗ tile c o j f)
      ⊢ iprop(((doneT c (.br b) ∗ ow c [] ∗ tile c o₁ j₁ (outF m ρ c) ∗ oFl m ρ c k o j) -∗ WP c (kk ⟨⟩) Q)
        -∗ WP c (.op (.waitDma2 (brS b) srcw (rBq b) h1 h2) fun _ => .op (.load rB (bR b).toLoadRect hl) fun v =>
            .op (.waitDma2 (oSm k) srcw₁ (oM.slice (Rect.unit (s := S4096x2048) off₁ S1024x512.size inb₁) hr₁) a1 a2) fun _ =>
            .op (.load oS (oR k).toLoadRect hl'') fun _ => .op (.store oS (oR k) (pay v) Finset.univ hx hm) fun _ =>
            .op (.enqueueDma (oSq k) (.here (oM.slice (Rect.unit (s := S4096x2048) off' S1024x512.size inb') hr')) (.dma (oSm k)) g1 g2 g3) kk) Q) := by
  subst hp
  unfold waitT
  iintro ⟨#Hrec, #Hlev, ⟨Hc, Hat⟩, HO, Hof, Ht⟩ Hk
  iapply (wp_cellwait m ρ K c (.br b) (brS b) rfl rfl (credit_rB b)) $$ [Hc HO Hat]
  · isplitr; · iexact Hrec
    isplitl [Hc]; · iexact Hc
    isplitl [HO]; · iexact HO
    isplitr; · iexact Hlev
    iexact Hat
  dsimp only [payK]
  iintro ⟨Hs, Hv, HO⟩
  iapply (wp_slot_load c rB (bR b) (landB m ρ c b)) $$ Hs
  iintro Hs
  iapply (wp_owait m ρ c k o₁ j₁ [] (credit_o off₁ inb₁ hr₁)) $$ [Hof HO]
  · isplitl [Hof]; · iexact Hof
    isplitl [HO]; · iexact HO
    iexact Hlev
  iintro ⟨Ht₁, Hj, Hov, HO⟩
  iapply (wp_put c oS (oR k) (k0_pay22 (landB m ρ c b))) $$ Hj
  iintro Hj
  iapply (wp_putout m ρ c k o j _ hX f hoff') $$ [Hj Ht Hov]
  · isplitl [Hj]; · iexact Hj
    isplitl [Ht]; · iexact Ht
    iexact Hov
  iintro Ho
  iapply Hk
  isplitl [Hs Hv]
  · unfold doneT
    isplitl [Hs]; · dsimp only [heldK]; iapply (junk_intro c rB (bR b)); iexact Hs
    iexact Hv
  isplitl [HO]; · iexact HO
  isplitl [Ht₁]; · iexact Ht₁
  iexact Ho

/-- The same for a landed block of the float8 sends. -/
theorem wp_recvF (c : Dev nD) (k : Fin 2) (i : Fin 4) (o j o₁ j₁ : Fin 4) (hX : k0_pay23 (landF m ρ c i) = outX m ρ c o j)
    (pay : Vec F S1x1024x512 .fp8e4m3 → Vec F S1x1024x512 .f32) (hp : pay = k0_pay23) (f : Buf (Elt F) (oM.view.loc (c : Thread nD τ)))
    {off' : Fin 2 → ℕ} (hoff' : off' = ![1024 * o.val, 512 * j.val]) {inb'}
    {sp sp₁ : Space} {s s₁ : Shape} {e e₁ : EltTy} {srcw : Memref sig .tc sp s e}
    {srcw₁ : Memref sig .tc sp₁ s₁ e₁} {off₁ : Fin 2 → ℕ} {inb₁ hr₁}
    {h1 h2 hl a1 a2 hl'' hx hm hr' g1 g2 g3}
    {kk : PUnit → Prog (TpuEff nD τ sig (Elt F) Λ₀ .tc) α} :
    iprop(records m ρ K ∗ levAts L lv ∗ waitT c (.fr i) ∗ ow c [] ∗ oFl m ρ c k o₁ j₁ ∗ tile c o j f)
      ⊢ iprop(((doneT c (.fr i) ∗ ow c [] ∗ tile c o₁ j₁ (outF m ρ c) ∗ oFl m ρ c k o j) -∗ WP c (kk ⟨⟩) Q)
        -∗ WP c (.op (.waitDma2 (frS i) srcw (rFq i) h1 h2) fun _ => .op (.load rF (fR i).toLoadRect hl) fun v =>
            .op (.waitDma2 (oSm k) srcw₁ (oM.slice (Rect.unit (s := S4096x2048) off₁ S1024x512.size inb₁) hr₁) a1 a2) fun _ =>
            .op (.load oS (oR k).toLoadRect hl'') fun _ => .op (.store oS (oR k) (pay v) Finset.univ hx hm) fun _ =>
            .op (.enqueueDma (oSq k) (.here (oM.slice (Rect.unit (s := S4096x2048) off' S1024x512.size inb') hr')) (.dma (oSm k)) g1 g2 g3) kk) Q) := by
  subst hp
  unfold waitT
  iintro ⟨#Hrec, #Hlev, ⟨Hc, Hat⟩, HO, Hof, Ht⟩ Hk
  iapply (wp_cellwait m ρ K c (.fr i) (frS i) rfl rfl (credit_rF i)) $$ [Hc HO Hat]
  · isplitr; · iexact Hrec
    isplitl [Hc]; · iexact Hc
    isplitl [HO]; · iexact HO
    isplitr; · iexact Hlev
    iexact Hat
  dsimp only [payK]
  iintro ⟨Hs, Hv, HO⟩
  iapply (wp_slot_load c rF (fR i) (landF m ρ c i)) $$ Hs
  iintro Hs
  iapply (wp_owait m ρ c k o₁ j₁ [] (credit_o off₁ inb₁ hr₁)) $$ [Hof HO]
  · isplitl [Hof]; · iexact Hof
    isplitl [HO]; · iexact HO
    iexact Hlev
  iintro ⟨Ht₁, Hj, Hov, HO⟩
  iapply (wp_put c oS (oR k) (k0_pay23 (landF m ρ c i))) $$ Hj
  iintro Hj
  iapply (wp_putout m ρ c k o j _ hX f hoff') $$ [Hj Ht Hov]
  · isplitl [Hj]; · iexact Hj
    isplitl [Ht]; · iexact Ht
    iexact Hov
  iintro Ho
  iapply Hk
  isplitl [Hs Hv]
  · unfold doneT
    isplitl [Hs]; · dsimp only [heldK]; iapply (junk_intro c rF (fR i)); iexact Hs
    iexact Hv
  isplitl [HO]; · iexact HO
  isplitl [Ht₁]; · iexact Ht₁
  iexact Ho

/-- The wait for a send of the bfloat16 sends; -/
theorem wp_sentB (c : Dev nD) (b : Fin 8) {sp : Space} {s : Shape} {e : EltTy} {srcw : Memref sig .tc sp s e} {h1 h2} {kk : PUnit → Prog (TpuEff nD τ sig (Elt F) Λ₀ .tc) α} :
    iprop(records m ρ K ∗ levAts L lv ∗ waitT c (.bs b) ∗ ow c [])
      ⊢ iprop(((doneT c (.bs b) ∗ ow c []) -∗ WP c (kk ⟨⟩) Q) -∗ WP c (.op (.waitDma2 (bsS b) srcw (sBq b) h1 h2) kk) Q) := by
  unfold waitT
  iintro ⟨#Hrec, #Hlev, ⟨Hc, Hat⟩, HO⟩ Hk
  iapply (wp_cellwait m ρ K c (.bs b) (bsS b) rfl rfl (credit_sB b)) $$ [Hc HO Hat]
  · isplitr; · iexact Hrec
    isplitl [Hc]; · iexact Hc
    isplitl [HO]; · iexact HO
    isplitr; · iexact Hlev
    iexact Hat
  dsimp only [payK]
  iintro ⟨Hs, Hv, HO⟩
  iapply Hk
  isplitl [Hs Hv]
  · unfold doneT
    isplitl [Hs]; · dsimp only [heldK]; iexact Hs
    iexact Hv
  iexact HO

/-- of the float8 sends. -/
theorem wp_sentF (c : Dev nD) (j : Fin 4) {sp : Space} {s : Shape} {e : EltTy} {srcw : Memref sig .tc sp s e} {h1 h2} {kk : PUnit → Prog (TpuEff nD τ sig (Elt F) Λ₀ .tc) α} :
    iprop(records m ρ K ∗ levAts L lv ∗ waitT c (.fs j) ∗ ow c [])
      ⊢ iprop(((doneT c (.fs j) ∗ ow c []) -∗ WP c (kk ⟨⟩) Q) -∗ WP c (.op (.waitDma2 (fsS j) srcw (sFq j) h1 h2) kk) Q) := by
  unfold waitT
  iintro ⟨#Hrec, #Hlev, ⟨Hc, Hat⟩, HO⟩ Hk
  iapply (wp_cellwait m ρ K c (.fs j) (fsS j) rfl rfl (credit_sF j)) $$ [Hc HO Hat]
  · isplitr; · iexact Hrec
    isplitl [Hc]; · iexact Hc
    isplitl [HO]; · iexact HO
    isplitr; · iexact Hlev
    iexact Hat
  dsimp only [payK]
  iintro ⟨Hs, Hv, HO⟩
  iapply Hk
  isplitl [Hs Hv]
  · unfold doneT
    isplitl [Hs]; · dsimp only [heldK]; iexact Hs
    iexact Hv
  iexact HO

/-- The last waits for the write-backs. -/
theorem wp_outdone (c : Dev nD) (k : Fin 2) (o j : Fin 4) {sp : Space} {s : Shape} {e : EltTy}
    {srcw : Memref sig .tc sp s e} {off₁ : Fin 2 → ℕ} {inb₁ hr₁} {h1 h2}
    {kk : PUnit → Prog (TpuEff nD τ sig (Elt F) Λ₀ .tc) α} :
    iprop(oFl m ρ c k o j ∗ ow c [] ∗ levAts L lv)
      ⊢ iprop(((tile c o j (outF m ρ c) ∗ oIdle c k ∗ ow c []) -∗ WP c (kk ⟨⟩) Q)
        -∗ WP c (.op (.waitDma2 (oSm k) srcw (oM.slice (Rect.unit (s := S4096x2048) off₁ S1024x512.size inb₁) hr₁) h1 h2) kk) Q) := by
  iintro ⟨Hof, HO, #Hlev⟩ Hk
  iapply (wp_owait m ρ c k o j [] (credit_o off₁ inb₁ hr₁)) $$ [Hof HO]
  · isplitl [Hof]; · iexact Hof
    isplitl [HO]; · iexact HO
    iexact Hlev
  iintro ⟨Ht, Hj, Hv, HO⟩
  iapply Hk
  isplitl [Ht]; · iexact Ht
  isplitl [Hj Hv]
  · unfold oIdle
    isplitl [Hj]; · iexact Hj
    iexact Hv
  iexact HO

end Cert.A2A

end
-- ==== Proof.Body.lean ====
/-
# `Body`: the kernel's body on one device

From what the launch hands a device, the body runs to its end, one rule of `Steps3` for each of its steps, in the
program's order.
-/
module

public import proofs.«01_k».proof.Proof.Steps3

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-! ## What the body starts from and ends with -/

/-- The columns of the weights device `d` is to have, block by block; the rows device `o` provides of the result. -/
def wrow (c d : Dev nD) : sProp 𝕄 := bigSep Finset.univ fun j : Fin 4 => wcol m c d j
def trow (c o : Dev nD) (f : Buf (Elt F) (oM.view.loc (c : Thread nD τ))) : sProp 𝕄 := bigSep Finset.univ fun j : Fin 4 => tile c o j f

/-- The tokens device `c` pays its three barrier signals with. -/
def barToks (c : Dev nD) : sProp 𝕄 :=
  iprop(dutyTok ER (kcell (pe 1 c) .bar) 0 2 ∗ dutyTok ER (kcell (pe 2 c) .bar) 0 1 ∗ dutyTok ER (kcell (pe 3 c) .bar) 0 0)

/-- What device `c`'s body starts from, besides its rows of `x` and what it owes; -/
def bodyHeld (c : Dev nD) : sProp 𝕄 :=
  iprop(records m ρ K ∗ levAts L lv ∗ cred (tallyAt (kcell c .bar) () 3) ∗ atPos ER (kcell c .bar) 0 ∅ 0 ∗ barToks c
    ∗ (bigSep Finset.univ fun b : Fin 8 => sndB c b) ∗ (bigSep Finset.univ fun j : Fin 4 => sndF c j)
    ∗ (bigSep Finset.univ fun b : Fin 8 => waitT c (.br b)) ∗ (bigSep Finset.univ fun j : Fin 4 => waitT c (.fr j))
    ∗ (bigSep Finset.univ fun b : Fin 8 => junk c rB (bR b)) ∗ (bigSep Finset.univ fun j : Fin 4 => junk c rF (fR j))
    ∗ (bigSep Finset.univ fun k : Fin 2 => wIdle c k) ∗ (bigSep Finset.univ fun k : Fin 2 => oIdle c k)
    ∗ (wrow m c c ∗ wrow m c (pe 1 c) ∗ wrow m c (pe 2 c) ∗ wrow m c (pe 3 c))
    ∗ (trow c c (m ((c : Thread nD τ).loc main_v1)) ∗ trow c (pe 1 c) (m ((c : Thread nD τ).loc main_v1))
      ∗ trow c (pe 2 c) (m ((c : Thread nD τ).loc main_v1)) ∗ trow c (pe 3 c) (m ((c : Thread nD τ).loc main_v1))))

/-- what it leaves: its counters at zero, its buffers, the weights unchanged, and the result at `outF`. -/
def bodyLeft (c : Dev nD) : sProp 𝕄 :=
  iprop(semVal (kcell c .bar) 0
    ∗ (bigSep Finset.univ fun b : Fin 8 => doneT c (.bs b)) ∗ (bigSep Finset.univ fun j : Fin 4 => doneT c (.fs j))
    ∗ (bigSep Finset.univ fun b : Fin 8 => doneT c (.br b)) ∗ (bigSep Finset.univ fun j : Fin 4 => doneT c (.fr j))
    ∗ (bigSep Finset.univ fun k : Fin 2 => wIdle c k) ∗ (bigSep Finset.univ fun k : Fin 2 => oIdle c k)
    ∗ (wrow m c c ∗ wrow m c (pe 1 c) ∗ wrow m c (pe 2 c) ∗ wrow m c (pe 3 c))
    ∗ (trow c c (outF m ρ c) ∗ trow c (pe 1 c) (outF m ρ c) ∗ trow c (pe 2 c) (outF m ρ c) ∗ trow c (pe 3 c) (outF m ρ c)))

theorem bigSep_two (Φ : Fin 2 → sProp 𝕄) : bigSep Finset.univ Φ = iprop(Φ 0 ∗ Φ 1) := bigSep_univ_eq_bigSepL [0, 1] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## Offsets and values at the steps -/

theorem off1_own (c : Dev nD) (j : Fin 4) : k0_off1 c 0#32 (BitVec.ofNat 32 j.val) = ![0, 2048 * c.val + 512 * j.val] := by
  have := off1_eq c 0 j; rwa [show pe (0 : Fin 4).val c = c from pe_0 c] at this

theorem pe_ne (c : Dev nD) : pe 1 c ≠ c ∧ pe 2 c ≠ c ∧ pe 3 c ≠ c ∧ pe 2 c ≠ pe 1 c ∧ pe 3 c ≠ pe 1 c ∧ pe 3 c ≠ pe 2 c := by revert c; decide

theorem outX_1 (c : Dev nD) (b : Fin 8) (j : Fin 4) (h : b.val = j.val) : k0_pay22 (landB m ρ c b) = outX m ρ c (pe 1 c) j := by
  unfold outX
  rw [if_neg (pe_ne c).1, if_pos rfl, show b = ⟨j.val, by omega⟩ from Fin.ext h]
theorem outX_2 (c : Dev nD) (j : Fin 4) : k0_pay23 (landF m ρ c j) = outX m ρ c (pe 2 c) j := by
  unfold outX
  rw [if_neg (pe_ne c).2.1, if_neg (pe_ne c).2.2.2.1, if_pos rfl]
theorem outX_3 (c : Dev nD) (b : Fin 8) (j : Fin 4) (h : b.val = 4 + j.val) : k0_pay22 (landB m ρ c b) = outX m ρ c (pe 3 c) j := by
  unfold outX
  rw [if_neg (pe_ne c).2.2.1, if_neg (pe_ne c).2.2.2.2.1, if_neg (pe_ne c).2.2.2.2.2, show b = ⟨4 + j.val, by omega⟩ from Fin.ext h]

theorem barPay_1 (c : Dev nD) : (iprop(junk c rB (bR 0) ∗ junk c rB (bR 1) ∗ junk c rB (bR 2) ∗ junk c rB (bR 3)) : sProp 𝕄) ⊢ barPay (pe 1 c) 2 := by
  dsimp only [barPay]; rw [pe_3_1]
theorem barPay_2 (c : Dev nD) : (iprop(junk c rF (fR 0) ∗ junk c rF (fR 1) ∗ junk c rF (fR 2) ∗ junk c rF (fR 3)) : sProp 𝕄) ⊢ barPay (pe 2 c) 1 := by
  dsimp only [barPay]; rw [pe_2_2]
theorem barPay_3 (c : Dev nD) : (iprop(junk c rB (bR 4) ∗ junk c rB (bR 5) ∗ junk c rB (bR 6) ∗ junk c rB (bR 7)) : sProp 𝕄) ⊢ barPay (pe 3 c) 0 := by
  dsimp only [barPay]; rw [pe_1_3]

/-! ## The run of the body -/

set_option maxRecDepth 20000 in
set_option maxHeartbeats 40000000 in
/-- The body runs on device `c` from what it is handed to what it leaves. -/
theorem sound_body (c : Dev nD) (Kt : PUnit → sProp 𝕄) :
    iprop((bodyHeld m ρ K c ∗ xPts m ρ c ∗ ow c allL) ∗ ((bodyLeft m ρ c ∗ xPts m ρ c ∗ ow c []) -∗ Kt ⟨⟩))
      ⊢ wp frame (wpE (defs₀ (F := F)) 𝒱₀ c none) Set.univ
          (cc0_body (F := F) xM (Memref.isWhole_whole _) wM (Memref.isWhole_whole _) oM (Memref.isWhole_whole _) wb (Memref.isWhole_whole _)
            sB (Memref.isWhole_whole _) sF (Memref.isWhole_whole _) rB (Memref.isWhole_whole _) rF (Memref.isWhole_whole _) oS (Memref.isWhole_whole _)
            cc0_scratch6 cc0_scratch7 cc0_scratch8 cc0_scratch9 cc0_scratch10 cc0_scratch11) Kt := by
  simp only [cc0_body_eq_skeleton]; unfold cc0_body_skel
  simp only [k0_part51_eq_skeleton]; unfold k0_part51_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel
  simp only [semSignalWord, semWaitWord, Prog.lift, Prog.bind_op, Prog.bind_ret, Prog.pure_eq_ret, wp_deviceId]
  unfold bodyHeld barToks wrow trow allL
  simp only [bigSep_two, bigSep_four, bigSep_eight]
  iintro ⟨⟨⟨#Hrec, #Hlev, Hcb, Hab, ⟨Hb1, Hb2, Hb3⟩, ⟨HsB0, HsB1, HsB2, HsB3, HsB4, HsB5, HsB6, HsB7⟩, ⟨HsF0, HsF1, HsF2, HsF3⟩, ⟨HrB0, HrB1, HrB2, HrB3, HrB4, HrB5, HrB6, HrB7⟩, ⟨HrF0, HrF1, HrF2, HrF3⟩,
    ⟨HjB0, HjB1, HjB2, HjB3, HjB4, HjB5, HjB6, HjB7⟩, ⟨HjF0, HjF1, HjF2, HjF3⟩, ⟨Hwi0, Hwi1⟩, ⟨Hoi0, Hoi1⟩,
    ⟨⟨Hw00, Hw01, Hw02, Hw03⟩, ⟨Hw10, Hw11, Hw12, Hw13⟩, ⟨Hw20, Hw21, Hw22, Hw23⟩, ⟨Hw30, Hw31, Hw32, Hw33⟩⟩,
    ⟨⟨Ht00, Ht01, Ht02, Ht03⟩, ⟨Ht10, Ht11, Ht12, Ht13⟩, ⟨Ht20, Ht21, Ht22, Ht23⟩, ⟨Ht30, Ht31, Ht32, Ht33⟩⟩⟩, Hx, HO⟩, Hk⟩
  iapply (wp_sig m ρ K c _ 1 2 _ (dev1_eq c) rfl) $$ [HO Hb1 HjB0 HjB1 HjB2 HjB3]
  · isplitr; · iexact Hrec
    isplitl [HO]; · iexact HO
    isplitl [Hb1]; · iexact Hb1
    iapply (barPay_1 c); iframe
  iintro HO
  iapply (wp_sig m ρ K c _ 2 1 _ (dev2_eq c) rfl) $$ [HO Hb2 HjF0 HjF1 HjF2 HjF3]
  · isplitr; · iexact Hrec
    isplitl [HO]; · iexact HO
    isplitl [Hb2]; · iexact Hb2
    iapply (barPay_2 c); iframe
  iintro HO
  iapply (wp_sig m ρ K c _ 3 0 _ (dev3_eq c) rfl) $$ [HO Hb3 HjB4 HjB5 HjB6 HjB7]
  · isplitr; · iexact Hrec
    isplitl [HO]; · iexact HO
    isplitl [Hb3]; · iexact Hb3
    iapply (barPay_3 c); iframe
  iintro HO
  iapply (wp_barwait m ρ K c rfl) $$ [Hcb HO Hab]
  · iframe Hrec Hlev ∗
  unfold barPay sendL
  iintro ⟨⟨HdB4, HdB5, HdB6, HdB7⟩, ⟨HdF0, HdF1, HdF2, HdF3⟩, ⟨HdB0, HdB1, HdB2, HdB3⟩, Hbz, HO⟩
  iapply (wp_fetch0 m c 0 (pe 1 c) 0 (off1_eq c 1 0)) $$ [Hwi0 Hw10]
  · iframe
  iintro Hfl0
  iapply (wp_fetch0 m c 1 (pe 2 c) 0 (off1_eq c 2 0)) $$ [Hwi1 Hw20]
  · iframe
  iintro Hfl1
  iapply (wp_stepB m ρ K c 0 4 (pe 1 c) _ 0 (pe 3 c) 0 [.f8 0, .bf 0, .bf 5, .f8 1, .bf 1, .bf 6, .f8 2, .bf 2, .bf 7, .f8 3, .bf 3] rfl rfl (dev4_eq c) k0_pay1 rfl (off1_eq c 3 0)) $$ [Hfl0 HO Hx HsB4 HdB4 Hw30]
  · iframe Hrec Hlev ∗
  iintro ⟨Hfl0, Hw10, HO, Hx, HsB4⟩
  iapply (wp_stepF m ρ K c 1 _ 0 (pe 1 c) 1 [.bf 0, .bf 5, .f8 1, .bf 1, .bf 6, .f8 2, .bf 2, .bf 7, .f8 3, .bf 3] (dev5_eq c) k0_pay2 rfl (off1_eq c 1 1)) $$ [Hfl1 HO Hx HsF0 HdF0 Hw11]
  · iframe Hrec Hlev ∗
  iintro ⟨Hfl1, Hw20, HO, Hx, HsF0⟩
  iapply (wp_stepB m ρ K c 0 0 (pe 3 c) _ 0 (pe 2 c) 1 [.bf 5, .f8 1, .bf 1, .bf 6, .f8 2, .bf 2, .bf 7, .f8 3, .bf 3] rfl rfl (dev6_eq c) k0_pay3 rfl (off1_eq c 2 1)) $$ [Hfl0 HO Hx HsB0 HdB0 Hw21]
  · iframe Hrec Hlev ∗
  iintro ⟨Hfl0, Hw30, HO, Hx, HsB0⟩
  iapply (wp_stepB m ρ K c 1 5 (pe 1 c) _ 1 (pe 3 c) 1 [.f8 1, .bf 1, .bf 6, .f8 2, .bf 2, .bf 7, .f8 3, .bf 3] rfl rfl (dev7_eq c) k0_pay4 rfl (off1_eq c 3 1)) $$ [Hfl1 HO Hx HsB5 HdB5 Hw31]
  · iframe Hrec Hlev ∗
  iintro ⟨Hfl1, Hw11, HO, Hx, HsB5⟩
  iapply (wp_stepF m ρ K c 0 _ 1 (pe 1 c) 2 [.bf 1, .bf 6, .f8 2, .bf 2, .bf 7, .f8 3, .bf 3] (dev8_eq c) k0_pay5 rfl (off1_eq c 1 2)) $$ [Hfl0 HO Hx HsF1 HdF1 Hw12]
  · iframe Hrec Hlev ∗
  iintro ⟨Hfl0, Hw21, HO, Hx, HsF1⟩
  iapply (wp_stepB m ρ K c 1 1 (pe 3 c) _ 1 (pe 2 c) 2 [.bf 6, .f8 2, .bf 2, .bf 7, .f8 3, .bf 3] rfl rfl (dev9_eq c) k0_pay6 rfl (off1_eq c 2 2)) $$ [Hfl1 HO Hx HsB1 HdB1 Hw22]
  · iframe Hrec Hlev ∗
  iintro ⟨Hfl1, Hw31, HO, Hx, HsB1⟩
  iapply (wp_stepB m ρ K c 0 6 (pe 1 c) _ 2 (pe 3 c) 2 [.f8 2, .bf 2, .bf 7, .f8 3, .bf 3] rfl rfl (dev10_eq c) k0_pay7 rfl (off1_eq c 3 2)) $$ [Hfl0 HO Hx HsB6 HdB6 Hw32]
  · iframe Hrec Hlev ∗
  iintro ⟨Hfl0, Hw12, HO, Hx, HsB6⟩
  iapply (wp_stepF m ρ K c 1 _ 2 (pe 1 c) 3 [.bf 2, .bf 7, .f8 3, .bf 3] (dev11_eq c) k0_pay8 rfl (off1_eq c 1 3)) $$ [Hfl1 HO Hx HsF2 HdF2 Hw13]
  · iframe Hrec Hlev ∗
  iintro ⟨Hfl1, Hw22, HO, Hx, HsF2⟩
  iapply (wp_stepB m ρ K c 0 2 (pe 3 c) _ 2 (pe 2 c) 3 [.bf 7, .f8 3, .bf 3] rfl rfl (dev12_eq c) k0_pay9 rfl (off1_eq c 2 3)) $$ [Hfl0 HO Hx HsB2 HdB2 Hw23]
  · iframe Hrec Hlev ∗
  iintro ⟨Hfl0, Hw32, HO, Hx, HsB2⟩
  iapply (wp_stepB m ρ K c 1 7 (pe 1 c) _ 3 (pe 3 c) 3 [.f8 3, .bf 3] rfl rfl (dev13_eq c) k0_pay10 rfl (off1_eq c 3 3)) $$ [Hfl1 HO Hx HsB7 HdB7 Hw33]
  · iframe Hrec Hlev ∗
  iintro ⟨Hfl1, Hw13, HO, Hx, HsB7⟩
  iapply (wp_stepF m ρ K c 0 _ 3 c 0 [.bf 3] (dev14_eq c) k0_pay11 rfl (off1_own c 0)) $$ [Hfl0 HO Hx HsF3 HdF3 Hw00]
  · iframe Hrec Hlev ∗
  iintro ⟨Hfl0, Hw23, HO, Hx, HsF3⟩
  iapply (wp_stepB m ρ K c 1 3 (pe 3 c) _ 3 c 1 [] rfl rfl (dev15_eq c) k0_pay12 rfl (off1_own c 1)) $$ [Hfl1 HO Hx HsB3 HdB3 Hw01]
  · iframe Hrec Hlev ∗
  iintro ⟨Hfl1, Hw33, HO, Hx, HsB3⟩
  iapply (wp_ownA m ρ c 0 0 c 2 [] k0_pay13 rfl _ (off1_own c 2) (k0_off2_eq c)) $$ [Hfl0 HO Hx Hoi0 Ht00 Hw02]
  · iframe Hlev ∗
  iintro ⟨Hfl0, Hw00, HO, Hx, Hof0⟩
  iapply (wp_ownA m ρ c 1 1 c 3 [] (fun v x => k0_pay17 (k0_pay14 v x) (k0_pay15 v x) (k0_pay16 v x)) rfl _ (off1_own c 3) (k0_off3_eq c)) $$ [Hfl1 HO Hx Hoi1 Ht01 Hw03]
  · iframe Hlev ∗
  iintro ⟨Hfl1, Hw01, HO, Hx, Hof1⟩
  iapply (wp_ownB m ρ c 0 2 c 0 [] (fun v x => k0_pay19 (k0_pay18 v x)) rfl _ (k0_off4_eq c)) $$ [Hfl0 HO Hx Hof0 Ht02]
  · iframe Hlev ∗
  iintro ⟨Hwi0, Hw02, HO, Hx, Ht00, Hof0⟩
  iapply (wp_ownB m ρ c 1 3 c 1 [] (fun v x => k0_pay21 (k0_pay20 v x)) rfl _ (k0_off5_eq c)) $$ [Hfl1 HO Hx Hof1 Ht03]
  · iframe Hlev ∗
  iintro ⟨Hwi1, Hw03, HO, Hx, Ht01, Hof1⟩
  iapply (wp_recvB m ρ K c 0 4 (pe 3 c) 0 c 2 (outX_3 m ρ c 4 0 rfl) k0_pay22 rfl _ (off6_eq c 3)) $$ [HrB4 HO Hof0 Ht30]
  · iframe Hrec Hlev ∗
  iintro ⟨HrB4, HO, Ht02, Hof0⟩
  iapply (wp_recvF m ρ K c 1 0 (pe 2 c) 0 c 3 (outX_2 m ρ c 0) k0_pay23 rfl _ (off6_eq c 2)) $$ [HrF0 HO Hof1 Ht20]
  · iframe Hrec Hlev ∗
  iintro ⟨HrF0, HO, Ht03, Hof1⟩
  iapply (wp_recvB m ρ K c 0 0 (pe 1 c) 0 (pe 3 c) 0 (outX_1 m ρ c 0 0 rfl) k0_pay24 rfl _ (off6_eq c 1)) $$ [HrB0 HO Hof0 Ht10]
  · iframe Hrec Hlev ∗
  iintro ⟨HrB0, HO, Ht30, Hof0⟩
  iapply (wp_recvB m ρ K c 1 5 (pe 3 c) 1 (pe 2 c) 0 (outX_3 m ρ c 5 1 rfl) (fun v => k0_pay26 (k0_pay25 v)) rfl _ (off7_eq c 3)) $$ [HrB5 HO Hof1 Ht31]
  · iframe Hrec Hlev ∗
  iintro ⟨HrB5, HO, Ht20, Hof1⟩
  iapply (wp_recvF m ρ K c 0 1 (pe 2 c) 1 (pe 1 c) 0 (outX_2 m ρ c 1) k0_pay27 rfl _ (off7_eq c 2)) $$ [HrF1 HO Hof0 Ht21]
  · iframe Hrec Hlev ∗
  iintro ⟨HrF1, HO, Ht10, Hof0⟩
  iapply (wp_recvB m ρ K c 1 1 (pe 1 c) 1 (pe 3 c) 1 (outX_1 m ρ c 1 1 rfl) k0_pay28 rfl _ (off7_eq c 1)) $$ [HrB1 HO Hof1 Ht11]
  · iframe Hrec Hlev ∗
  iintro ⟨HrB1, HO, Ht31, Hof1⟩
  iapply (wp_recvB m ρ K c 0 6 (pe 3 c) 2 (pe 2 c) 1 (outX_3 m ρ c 6 2 rfl) k0_pay29 rfl _ (off8_eq c 3)) $$ [HrB6 HO Hof0 Ht32]
  · iframe Hrec Hlev ∗
  iintro ⟨HrB6, HO, Ht21, Hof0⟩
  iapply (wp_recvF m ρ K c 1 2 (pe 2 c) 2 (pe 1 c) 1 (outX_2 m ρ c 2) (fun v => k0_pay31 (k0_pay30 v)) rfl _ (off8_eq c 2)) $$ [HrF2 HO Hof1 Ht22]
  · iframe Hrec Hlev ∗
  iintro ⟨HrF2, HO, Ht11, Hof1⟩
  iapply (wp_recvB m ρ K c 0 2 (pe 1 c) 2 (pe 3 c) 2 (outX_1 m ρ c 2 2 rfl) k0_pay32 rfl _ (off8_eq c 1)) $$ [HrB2 HO Hof0 Ht12]
  · iframe Hrec Hlev ∗
  iintro ⟨HrB2, HO, Ht32, Hof0⟩
  iapply (wp_recvB m ρ K c 1 7 (pe 3 c) 3 (pe 2 c) 2 (outX_3 m ρ c 7 3 rfl) k0_pay33 rfl _ (off9_eq c 3)) $$ [HrB7 HO Hof1 Ht33]
  · iframe Hrec Hlev ∗
  iintro ⟨HrB7, HO, Ht22, Hof1⟩
  iapply (wp_recvF m ρ K c 0 3 (pe 2 c) 3 (pe 1 c) 2 (outX_2 m ρ c 3) k0_pay34 rfl _ (off9_eq c 2)) $$ [HrF3 HO Hof0 Ht23]
  · iframe Hrec Hlev ∗
  iintro ⟨HrF3, HO, Ht12, Hof0⟩
  iapply (wp_recvB m ρ K c 1 3 (pe 1 c) 3 (pe 3 c) 3 (outX_1 m ρ c 3 3 rfl) (fun v => k0_pay36 (k0_pay35 v)) rfl _ (off9_eq c 1)) $$ [HrB3 HO Hof1 Ht13]
  · iframe Hrec Hlev ∗
  iintro ⟨HrB3, HO, Ht33, Hof1⟩
  iapply (wp_sentB m ρ K c 4) $$ [HsB4 HO]
  · iframe Hrec Hlev ∗
  iintro ⟨HsB4, HO⟩
  iapply (wp_sentF m ρ K c 0) $$ [HsF0 HO]
  · iframe Hrec Hlev ∗
  iintro ⟨HsF0, HO⟩
  iapply (wp_sentB m ρ K c 0) $$ [HsB0 HO]
  · iframe Hrec Hlev ∗
  iintro ⟨HsB0, HO⟩
  iapply (wp_sentB m ρ K c 5) $$ [HsB5 HO]
  · iframe Hrec Hlev ∗
  iintro ⟨HsB5, HO⟩
  iapply (wp_sentF m ρ K c 1) $$ [HsF1 HO]
  · iframe Hrec Hlev ∗
  iintro ⟨HsF1, HO⟩
  iapply (wp_sentB m ρ K c 1) $$ [HsB1 HO]
  · iframe Hrec Hlev ∗
  iintro ⟨HsB1, HO⟩
  iapply (wp_sentB m ρ K c 6) $$ [HsB6 HO]
  · iframe Hrec Hlev ∗
  iintro ⟨HsB6, HO⟩
  iapply (wp_sentF m ρ K c 2) $$ [HsF2 HO]
  · iframe Hrec Hlev ∗
  iintro ⟨HsF2, HO⟩
  iapply (wp_sentB m ρ K c 2) $$ [HsB2 HO]
  · iframe Hrec Hlev ∗
  iintro ⟨HsB2, HO⟩
  iapply (wp_sentB m ρ K c 7) $$ [HsB7 HO]
  · iframe Hrec Hlev ∗
  iintro ⟨HsB7, HO⟩
  iapply (wp_sentF m ρ K c 3) $$ [HsF3 HO]
  · iframe Hrec Hlev ∗
  iintro ⟨HsF3, HO⟩
  iapply (wp_sentB m ρ K c 3) $$ [HsB3 HO]
  · iframe Hrec Hlev ∗
  iintro ⟨HsB3, HO⟩
  iapply (wp_outdone m ρ c 0 (pe 2 c) 3) $$ [Hof0 HO]
  · iframe Hlev ∗
  iintro ⟨Ht23, Hoi0, HO⟩
  iapply (wp_outdone m ρ c 1 (pe 1 c) 3) $$ [Hof1 HO]
  · iframe Hlev ∗
  iintro ⟨Ht13, Hoi1, HO⟩
  unfold WP; rw [wp_ret]; imodintro
  iapply Hk
  unfold bodyLeft wrow trow
  simp only [bigSep_two, bigSep_four, bigSep_eight]
  iframe

end Cert.A2A

end
-- ==== Proof.Pieces.lean ====
/-
# `Pieces`: buffers held whole and held piece by piece

A buffer held whole is its slots held one by one, and back. The weights' array is its column blocks, the result's array
is its tiles.
-/
module

public import proofs.«01_k».proof.Proof.Body

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer and its pieces -/

/-- Pieces of a shape that are disjoint and make up all of it. -/
def Tiling {s : Shape} {T : Type} (r : T → Rect s) : Prop :=
  (∀ t t', t ≠ t' → Disjoint (r t).set (r t').set) ∧ ∀ i, ∃ t, i ∈ (r t).set

section Slots

variable {T : Type} [Fintype T] [DecidableEq T] {b : Ref sig .tc} {r : T → Rect b.ty.shape}

/-- The elements of a piece, among the buffer's. -/
abbrev piece (c : Dev nD) (b : Ref sig .tc) (r : Rect b.ty.shape) : Finset (Idx ((Memref.whole b).view.loc (c : Thread nD τ))) :=
  ((Memref.whole b).view.slice r).set

theorem piece_disj (h : Tiling r) (c : Dev nD) : ∀ t ∈ (Finset.univ : Finset T), ∀ t' ∈ (Finset.univ : Finset T), t ≠ t' →
    Disjoint (piece c b (r t)) (piece c b (r t')) := fun t _ t' _ ht => by
  unfold piece; rw [View.set_slice_whole, View.set_slice_whole]; exact h.1 t t' ht

theorem piece_cover (h : Tiling r) (c : Dev nD) : (Finset.univ : Finset T).biUnion (fun t => piece c b (r t)) = Finset.univ := by
  refine Finset.eq_univ_iff_forall.mpr fun i => ?_
  obtain ⟨t, ht⟩ := h.2 i
  exact Finset.mem_biUnion.mpr ⟨t, Finset.mem_univ _, by unfold piece; rw [View.set_slice_whole]; exact ht⟩

omit [FloatOps F] in
theorem whole_pieces (h : Tiling r) (c : Dev nD) (f : Buf (Elt F) ((Memref.whole b).view.loc (c : Thread nD τ))) :
    (((Memref.whole b).view.loc (c : Thread nD τ)) ↦{fullShare} f : sProp 𝕄)
      = bigSep Finset.univ fun t => ((Memref.whole b).view.loc (c : Thread nD τ)) ↦[piece c b (r t)]{fullShare} f := by
  have e := pointsTo_biUnion (nD := nD) (τ := τ) (sig := sig) (Ix := Unit) (Val := Elt F) (Name := ℕ) (U := UU) (Lvl := ℕ)
    (ℓ := (Memref.whole b).view.loc (c : Thread nD τ)) (q := fullShare) (f := f) Finset.univ (fun t => piece c b (r t)) (piece_disj h c)
  rw [piece_cover h c] at e
  exact e

omit [FloatOps F] in
/-- A buffer held whole is held slot by slot, -/
theorem slots_split (h : Tiling r) (c : Dev nD) :
    (iprop(∃ f : Buf (Elt F) ((c : Thread nD τ).loc b), ((c : Thread nD τ).loc b) ↦{fullShare} f) : sProp 𝕄)
      ⊢ bigSep Finset.univ fun t => junk c (Memref.whole b) (r t) := by
  iintro ⟨%f, H⟩
  ihave H' := (Entails.of_eq (whole_pieces h c f)) $$ H
  have h1 : (bigSep Finset.univ fun t => ((Memref.whole b).view.loc (c : Thread nD τ)) ↦[((Memref.whole b).view.slice (r t)).set]{fullShare} f : sProp 𝕄)
      ⊢ bigSep Finset.univ fun t => junk c (Memref.whole b) (r t) := bigSep_mono fun t _ => junk_of_pts c (Memref.whole b) (r t) f
  iapply h1; iexact H'

/-- and slots held one by one are the buffer held whole. -/
theorem slots_join (h : Tiling r) (c : Dev nD) :
    (bigSep Finset.univ fun t => junk c (Memref.whole b) (r t) : sProp 𝕄)
      ⊢ iprop(∃ f : Buf (Elt F) ((c : Thread nD τ).loc b), ((c : Thread nD τ).loc b) ↦{fullShare} f) := by
  have h1 : (bigSep Finset.univ fun t => junk c (Memref.whole b) (r t) : sProp 𝕄)
      ⊢ bigSep Finset.univ fun t => iprop(∃ f : Buf (Elt F) ((Memref.whole b).view.loc (c : Thread nD τ)),
          (((Memref.whole b).view.loc (c : Thread nD τ)) ↦[piece c b (r t)]{fullShare} f)) :=
    bigSep_mono fun t _ => junk_open c (Memref.whole b) (r t)
  haveI : Nonempty (Buf (Elt F) ((Memref.whole b).view.loc (c : Thread nD τ))) := ⟨fun _ => (Elt.nonempty F _).some⟩
  iintro H
  ihave H1 := h1 $$ H
  ihave H2 := (BI.bigSep_exists_pi Finset.univ fun (t : T) (f : Buf (Elt F) ((Memref.whole b).view.loc (c : Thread nD τ))) =>
    (((Memref.whole b).view.loc (c : Thread nD τ)) ↦[piece c b (r t)]{fullShare} f : sProp 𝕄)) $$ H1
  icases H2 with ⟨%fs, H2⟩
  ihave H3 := (pointsTo_biUnion_join Finset.univ (fun t => piece c b (r t)) fs (Classical.arbitrary _) (piece_disj h c)) $$ H2
  icases H3 with ⟨%g, %hg, H3⟩
  iexists g
  rw [piece_cover h c]
  iexact H3

end Slots

/-! ## The buffers' pieces -/

/-- The slices of thickness one across a first axis make up the whole. -/
theorem lead_tiling (n a b : ℕ) (inb : ∀ (k : Fin n) (x : Fin 3), (![k.val, 0, 0] : Fin 3 → ℕ) x + (![1, a, b] : Fin 3 → ℕ) x ≤ (![n, a, b] : Fin 3 → ℕ) x) :
    Tiling fun k : Fin n => Rect.unit (s := ⟨3, ![n, a, b]⟩) ![k.val, 0, 0] ![1, a, b] (inb k) := by
  refine ⟨fun t t' h => Rect.unit_disjoint 0 ?_, fun i => ⟨⟨(i 0).val, (i 0).isLt⟩, Rect.mem_set_unit.mpr fun x => ?_⟩⟩
  · show t.val + 1 ≤ t'.val ∨ t'.val + 1 ≤ t.val
    have := fun e => h (Fin.ext e); omega
  · have h := (i x).isLt
    fin_cases x
    · show (i 0).val ≤ (i 0).val ∧ (i 0).val < (i 0).val + 1; omega
    · exact ⟨Nat.zero_le _, (Nat.zero_add _).symm ▸ h⟩
    · exact ⟨Nat.zero_le _, (Nat.zero_add _).symm ▸ h⟩

theorem wR_tiling : Tiling wR := lead_tiling 2 4096 512 wR_inb
theorem bR_tiling : Tiling bR := lead_tiling 8 1024 512 bR_inb
theorem fR_tiling : Tiling fR := lead_tiling 4 1024 512 fR_inb
theorem oR_tiling : Tiling oR := lead_tiling 2 1024 512 oR_inb

/-- The blocks of the weights' columns: device `d`'s block `j`; -/
theorem wcR_tiling : Tiling fun dj : Dev nD × Fin 4 => wcR dj.1 dj.2 := by
  constructor
  · rintro ⟨d, j⟩ ⟨d', j'⟩ h
    refine Rect.unit_disjoint 1 ?_
    show 2048 * d.val + 512 * j.val + 512 ≤ 2048 * d'.val + 512 * j'.val ∨ 2048 * d'.val + 512 * j'.val + 512 ≤ 2048 * d.val + 512 * j.val
    have h1 : ¬ (d.val = d'.val ∧ j.val = j'.val) := fun e => h (Prod.ext (Fin.ext e.1) (Fin.ext e.2))
    have hj := j.isLt; have hj' := j'.isLt; have hd : d.val < 4 := d.isLt; have hd' : d'.val < 4 := d'.isLt
    omega
  · intro i
    have h0 : (i 0).val < 4096 := (i 0).isLt
    have h1 : (i 1).val < 8192 := (i 1).isLt
    refine ⟨((⟨(i 1).val / 2048, by omega⟩ : Fin 4), (⟨(i 1).val % 2048 / 512, by omega⟩ : Fin 4)), Rect.mem_set_unit.mpr fun a => ?_⟩
    fin_cases a
    · show 0 ≤ (i 0).val ∧ (i 0).val < 0 + 4096; omega
    · show 2048 * ((i 1).val / 2048) + 512 * ((i 1).val % 2048 / 512) ≤ (i 1).val
        ∧ (i 1).val < 2048 * ((i 1).val / 2048) + 512 * ((i 1).val % 2048 / 512) + 512
      omega
/-- the tiles of the result. -/
theorem tR_tiling : Tiling fun oj : Dev nD × Fin 4 => tR oj.1 oj.2 := by
  constructor
  · rintro ⟨o, j⟩ ⟨o', j'⟩ h
    by_cases ho : o = o'
    · refine Rect.unit_disjoint 1 ?_
      show 512 * j.val + 512 ≤ 512 * j'.val ∨ 512 * j'.val + 512 ≤ 512 * j.val
      have h1 : ¬ j.val = j'.val := fun e => h (Prod.ext ho (Fin.ext e))
      omega
    · refine Rect.unit_disjoint 0 ?_
      show 1024 * o.val + 1024 ≤ 1024 * o'.val ∨ 1024 * o'.val + 1024 ≤ 1024 * o.val
      have h1 : ¬ o.val = o'.val := fun e => ho (Fin.ext e)
      omega
  · intro i
    have h0 : (i 0).val < 4096 := (i 0).isLt
    have h1 : (i 1).val < 2048 := (i 1).isLt
    refine ⟨((⟨(i 0).val / 1024, by omega⟩ : Fin 4), (⟨(i 1).val / 512, by omega⟩ : Fin 4)), Rect.mem_set_unit.mpr fun a => ?_⟩
    fin_cases a
    · show 1024 * ((i 0).val / 1024) ≤ (i 0).val ∧ (i 0).val < 1024 * ((i 0).val / 1024) + 1024
      omega
    · show 512 * ((i 1).val / 512) ≤ (i 1).val ∧ (i 1).val < 512 * ((i 1).val / 512) + 512
      omega

theorem bigSep_pe (c : Dev nD) (Φ : Dev nD → sProp 𝕄) : bigSep Finset.univ Φ = iprop(Φ c ∗ Φ (pe 1 c) ∗ Φ (pe 2 c) ∗ Φ (pe 3 c)) :=
  bigSep_univ_eq_bigSepL [c, pe 1 c, pe 2 c, pe 3 c] (by revert c; decide) (by revert c; decide) Φ

variable (m : (ℓ : Loc nD τ sig) → Buf (Elt F) ℓ)

/-- The weights' array held whole is its blocks, for every device; -/
theorem w_pieces (c : Dev nD) : (((c : Thread nD τ).loc main_arg1) ↦{fullShare} m ((c : Thread nD τ).loc main_arg1) : sProp 𝕄)
    = iprop(wrow m c c ∗ wrow m c (pe 1 c) ∗ wrow m c (pe 2 c) ∗ wrow m c (pe 3 c)) := by
  rw [← bigSep_pe c fun d => wrow m c d]
  exact (whole_pieces (b := main_arg1) wcR_tiling c _).trans (bigSep_univ_prod _)
/-- the result's array held whole is its tiles, from every device. -/
theorem o_pieces (c : Dev nD) (f : Buf (Elt F) ((c : Thread nD τ).loc main_v1)) : (((c : Thread nD τ).loc main_v1) ↦{fullShare} f : sProp 𝕄)
    = iprop(trow c c f ∗ trow c (pe 1 c) f ∗ trow c (pe 2 c) f ∗ trow c (pe 3 c) f) := by
  rw [← bigSep_pe c fun o => trow c o f]
  exact (whole_pieces (b := main_v1) tR_tiling c _).trans (bigSep_univ_prod _)

end Cert.A2A

end
-- ==== Proof.Deal.lean ====
/-
# `Deal`: what the launch deals the devices

The launch gives every device its own cells' duty tokens and positions. The tokens are dealt around the mesh, so that each
device has those of the duties it pays, and the credit a device starts with is what its peers owe it.
-/
module

public import proofs.«01_k».proof.Proof.Pieces

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Over all of a device's cells -/

/-- The transfer cells, in the order the program's semaphores come. -/
abbrev Xf : Type := Fin 8 ⊕ Fin 4 ⊕ Fin 8 ⊕ Fin 4
abbrev xfCell : Xf → Cell
  | .inl b => .bs b | .inr (.inl j) => .fs j | .inr (.inr (.inl b)) => .br b | .inr (.inr (.inr j)) => .fr j

def cellE : Unit ⊕ Xf ≃ Cell where
  toFun | .inl _ => .bar | .inr x => xfCell x
  invFun | .bar => .inl () | .bs b => .inr (.inl b) | .fs j => .inr (.inr (.inl j)) | .br b => .inr (.inr (.inr (.inl b)))
         | .fr j => .inr (.inr (.inr (.inr j)))
  left_inv := by rintro (_ | _ | _ | _ | _) <;> rfl
  right_inv := by rintro (_ | _ | _ | _ | _) <;> rfl

omit [FloatOps F] in
theorem bigSep_sum {A B : Type} [Fintype A] [Fintype B] (Φ : A ⊕ B → sProp 𝕄) :
    bigSep Finset.univ Φ = iprop((bigSep Finset.univ fun a => Φ (.inl a)) ∗ (bigSep Finset.univ fun b => Φ (.inr b))) := bigSep_univ_sum Φ
omit [FloatOps F] in
theorem bigSep_xf (Φ : Xf → sProp 𝕄) : bigSep Finset.univ Φ
    = iprop((bigSep Finset.univ fun b : Fin 8 => Φ (.inl b)) ∗ (bigSep Finset.univ fun j : Fin 4 => Φ (.inr (.inl j)))
        ∗ (bigSep Finset.univ fun b : Fin 8 => Φ (.inr (.inr (.inl b)))) ∗ (bigSep Finset.univ fun j : Fin 4 => Φ (.inr (.inr (.inr j))))) := by
  rw [bigSep_sum, bigSep_sum, bigSep_sum]
omit [FloatOps F] in
theorem bigSep_cells (Φ : Cell → sProp 𝕄) : bigSep Finset.univ Φ
    = iprop(Φ .bar ∗ (bigSep Finset.univ fun b : Fin 8 => Φ (.bs b)) ∗ (bigSep Finset.univ fun j : Fin 4 => Φ (.fs j))
        ∗ (bigSep Finset.univ fun b : Fin 8 => Φ (.br b)) ∗ (bigSep Finset.univ fun j : Fin 4 => Φ (.fr j))) := by
  rw [bigSep_univ_equiv cellE, bigSep_sum, bigSep_xf, bigSep_univ_eq_bigSepL [()] (by decide) (by decide), bigSepL_singleton]
  rfl

/-! ## The semaphores -/

/-- The kernel's own semaphores: its transfer cells', the weights' fetches', the results' write-backs'. -/
abbrev OwnK : Type := Xf ⊕ Fin 2 ⊕ Fin 2
abbrev osem : OwnK → SemLoc sig
  | .inl x => csem (xfCell x) | .inr (.inl k) => .dma (wS k) | .inr (.inr k) => .dma (oSm k)

set_option maxRecDepth 8000 in
theorem ownSemFacts : Pipeline.OwnSemFacts cfg0.spec osem := by decide +kernel

omit [FloatOps F] in
theorem ownSems0_eq (c : Dev nD) : (Pipeline.ownSems0 (Ix := Unit) (Name := ℕ) (U := UU) (Lvl := ℕ) (Val := Elt F) (τ := τ) osem c : sProp 𝕄)
    = iprop(((bigSep Finset.univ fun b : Fin 8 => semVal (kcell c (.bs b)) 0) ∗ (bigSep Finset.univ fun j : Fin 4 => semVal (kcell c (.fs j)) 0)
        ∗ (bigSep Finset.univ fun b : Fin 8 => semVal (kcell c (.br b)) 0) ∗ (bigSep Finset.univ fun j : Fin 4 => semVal (kcell c (.fr j)) 0))
      ∗ (bigSep Finset.univ fun k : Fin 2 => semVal ((c : Thread nD τ), .dma (wS k)) 0)
      ∗ (bigSep Finset.univ fun k : Fin 2 => semVal ((c : Thread nD τ), .dma (oSm k)) 0)) := by
  unfold Pipeline.ownSems0
  rw [bigSep_sum, bigSep_xf, bigSep_sum]
omit [FloatOps F] in
/-- The barrier semaphore is the one the launch does not scope. -/
theorem unscopedSems0_eq (c : Dev nD) : (unscopedSems0 c : sProp 𝕄) = semVal (kcell c .bar) 0 := by
  unfold unscopedSems0; rw [bigSep_eq_bigSepL_of_eq [SemLoc.reg barS] (by decide) (by decide)]; rfl

/-! ## Cells and tokens at the launch -/

theorem kcell_eq_iff {a b : Dev nD} {k k' : Cell} : kcell a k = kcell b k' ↔ a = b ∧ k = k' :=
  ⟨fun h => ⟨Fin.ext (congrArg (fun g : GSem nD τ sig => g.1.1.val) h), csem_inj (congrArg Prod.snd h)⟩, fun ⟨h, h'⟩ => by rw [h, h']⟩

theorem kcell_injective : Function.Injective fun ck : Dev nD × Cell => (kcell ck.1 ck.2 : GSem nD τ sig) := fun _ _ h =>
  Prod.ext (kcell_eq_iff.mp h).1 (kcell_eq_iff.mp h).2
def ringCells : Finset (GSem nD τ sig) := Finset.univ.map ⟨_, kcell_injective⟩

/-- A device's duties: the three of its barrier cell, the one of every other. -/
abbrev Duty : Type := Fin 3 ⊕ Xf
abbrev dutyOf : Duty → Cell × Fin 3
  | .inl d => (.bar, d) | .inr x => (xfCell x, 0)
theorem dutyOf_injective : Function.Injective dutyOf := by decide +kernel

abbrev tokOf (x : Dev nD × Duty) : GSem nD τ sig × ℕ × Fin 3 := (kcell x.1 (dutyOf x.2).1, 0, (dutyOf x.2).2)
theorem tokOf_injective : Function.Injective tokOf := fun x y h => by
  have h1 := kcell_eq_iff.mp (congrArg Prod.fst h)
  exact Prod.ext h1.1 (dutyOf_injective (Prod.ext h1.2 (congrArg (fun z => z.2.2) h)))
def ringToks : Finset (GSem nD τ sig × ℕ × Fin 3) := Finset.univ.map ⟨_, tokOf_injective⟩

def u₀ : UU :=
  (initOf (Pipeline.cells cfgs cellOf_inj) (Pipeline.launchToks cfgs cellOf_inj), (initOf ringCells ringToks, 1))

/-- A token of the single duty of a transfer cell. -/
abbrev tk (c : Dev nD) (k : Cell) (d : Fin 3) : sProp 𝕄 := dutyTok ER (kcell c k) 0 d

/-- The duty tokens of device `c`'s own cells; -/
def toks (c : Dev nD) : sProp 𝕄 := bigSep Finset.univ fun x : Duty => tk c (dutyOf x).1 (dutyOf x).2
/-- the tokens of the duties it pays. -/
def payToks (c : Dev nD) : sProp 𝕄 :=
  iprop(barToks c ∗ (bigSep Finset.univ fun b : Fin 8 => tk c (.bs b) 0) ∗ (bigSep Finset.univ fun j : Fin 4 => tk c (.fs j) 0)
    ∗ (bigSep Finset.univ fun b : Fin 8 => tk (dB b c) (.br b) 0) ∗ (bigSep Finset.univ fun j : Fin 4 => tk (pe 2 c) (.fr j) 0))

/-- The permutations of the devices by which the payments go. -/
def peE1 : Dev nD ≃ Dev nD := ⟨pe 1, pe 3, pe_3_1, pe_1_3⟩
def peE2 : Dev nD ≃ Dev nD := ⟨pe 2, pe 2, pe_2_2, pe_2_2⟩
def dBE (b : Fin 8) : Dev nD ≃ Dev nD := ⟨dB b, srcB b, srcB_dB b, fun c => by revert b c; decide⟩

omit [FloatOps F] in
theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), ← bigSep_univ_prod (fun x : B × A => Φ x.2 x.1), bigSep_univ_equiv (Equiv.prodComm B A)]
  rfl

omit [FloatOps F] in
theorem toks_around : (bigSep Finset.univ fun c : Dev nD => (toks c : sProp 𝕄)) ⊢ bigSep Finset.univ fun c : Dev nD => payToks c := by
  have h3 (Φ : Fin 3 → sProp 𝕄) : bigSep Finset.univ Φ = iprop(Φ 0 ∗ Φ 1 ∗ Φ 2) := bigSep_univ_eq_bigSepL [0, 1, 2] (by decide) (by decide) Φ
  have e (c : Dev nD) : (toks c : sProp 𝕄) = iprop((tk c .bar 0 ∗ tk c .bar 1 ∗ tk c .bar 2)
      ∗ (bigSep Finset.univ fun b : Fin 8 => tk c (.bs b) 0) ∗ (bigSep Finset.univ fun j : Fin 4 => tk c (.fs j) 0)
      ∗ (bigSep Finset.univ fun b : Fin 8 => tk c (.br b) 0) ∗ (bigSep Finset.univ fun j : Fin 4 => tk c (.fr j) 0)) := by
    unfold toks; rw [bigSep_sum, bigSep_xf, h3]
  have eb : (bigSep Finset.univ fun c : Dev nD => bigSep Finset.univ fun b : Fin 8 => (tk c (.br b) 0 : sProp 𝕄))
      = bigSep Finset.univ fun c : Dev nD => bigSep Finset.univ fun b : Fin 8 => tk (dB b c) (.br b) 0 := by
    rw [bigSep_swap, bigSep_swap (fun c b => (tk (dB b c) (.br b) 0 : sProp 𝕄))]
    exact bigSep_congr fun b _ => bigSep_univ_equiv (dBE b) fun c => (tk c (.br b) 0 : sProp 𝕄)
  rw [bigSep_congr fun c _ => e c]
  unfold payToks barToks
  simp only [bigSep_sep']
  rw [eb, bigSep_univ_equiv peE1 (fun c : Dev nD => (tk c .bar 2 : sProp 𝕄)), bigSep_univ_equiv peE2 (fun c : Dev nD => (tk c .bar 1 : sProp 𝕄)),
    bigSep_univ_equiv peE1.symm (fun c : Dev nD => (tk c .bar 0 : sProp 𝕄)),
    bigSep_univ_equiv peE2 (fun c : Dev nD => bigSep Finset.univ fun j : Fin 4 => (tk c (.fr j) 0 : sProp 𝕄))]
  iintro ⟨⟨H0, H1, H2⟩, Hs, Hf, Hr, Hrf⟩
  isplitl [H0 H1 H2]
  · isplitl [H2]; · iexact H2
    isplitl [H1]; · iexact H1
    iexact H0
  isplitl [Hs]; · iexact Hs
  isplitl [Hf]; · iexact Hf
  isplitl [Hr]; · iexact Hr
  iexact Hrf

/-! ## The launch's ghost state -/

/-- What the launch gives device `c`: its cells' states and positions, and their duty tokens. -/
def G (c : Dev nD) : sProp 𝕄 :=
  iprop((bigSep Finset.univ fun k : Cell => roundState ER (rd m ρ) (kcell c k) 0)
    ∗ (bigSep Finset.univ fun k : Cell => atPos ER (kcell c k) 0 ∅ 0) ∗ (bigSep Finset.univ fun k : Cell => reached ER (kcell c k) 0) ∗ toks c)

/-- The counters of the local transfers, at zero. -/
def locals0 (c : Dev nD) : sProp 𝕄 :=
  iprop((bigSep Finset.univ fun k : Fin 2 => semVal ((c : Thread nD τ), .dma (wS k)) 0)
    ∗ (bigSep Finset.univ fun k : Fin 2 => semVal ((c : Thread nD τ), .dma (oSm k)) 0))

/-- What device `c` has once the cells are shared. -/
def dealt (c : Dev nD) : sProp 𝕄 :=
  iprop((bigSep Finset.univ fun k : Cell => atPos ER (kcell c k) 0 ∅ 0) ∗ payToks c ∗ locals0 c)
def G' (c : Dev nD) : sProp 𝕄 := iprop(∃ K, records m ρ K ∗ dealt c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Cell => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell c k)))
          ∗ (bigSep Finset.univ fun k : Cell => reached ER (kcell c k) 0)
          ∗ (bigSep Finset.univ fun k : Cell => atPos ER (kcell c k) 0 ∅ 0) ∗ toks c ∗ locals0 c) := by
  have hi : iprop((bigSep Finset.univ fun k : Cell => semVal (kcell c k) 0) ∗ bigSep Finset.univ fun k : Cell => roundState ER (rd m ρ) (kcell c k) 0)
      ⊢ (|={Set.univ}=> bigSep Finset.univ fun k => iprop(∃ κ : ℕ, cellInv ER (rd m ρ) κ (kcell c k)) : sProp 𝕄) := by
    rw [← bigSep_sep']
    exact (bigSep_mono fun k _ => (Rounds.body_intro ER (rd m ρ) (kcell c k)).trans inv_alloc).trans (bigSep_fupd _ _)
  rw [ownSems0_eq, unscopedSems0_eq]
  unfold G
  iintro ⟨⟨Hx, Hl⟩, Hb, Hst, Hat, Hre, Htok⟩
  imod hi $$ [Hx Hb Hst] with Hinv
  · isplitl [Hx Hb]
    · rw [bigSep_cells]
      isplitl [Hb]; · iexact Hb
      iexact Hx
    iexact Hst
  imodintro
  isplitl [Hinv]; · iexact Hinv
  isplitl [Hre]; · iexact Hre
  isplitl [Hat]; · iexact Hat
  isplitl [Htok]; · iexact Htok
  unfold locals0; iexact Hl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell c k)))
          ∗ (bigSep Finset.univ fun k : Cell => reached ER (kcell c k) 0)
          ∗ (bigSep Finset.univ fun k : Cell => atPos ER (kcell c k) 0 ∅ 0) ∗ toks c ∗ locals0 c) : sProp 𝕄)
      ⊢ bigSep Finset.univ (G' m ρ) := by
  rw [bigSep_sep', bigSep_sep', bigSep_sep', bigSep_sep',
    ← bigSep_univ_prod (fun ck : Dev nD × Cell => iprop(∃ κ : ℕ, cellInv ER (rd m ρ) κ (kcell ck.1 ck.2))),
    ← bigSep_univ_prod (fun ck : Dev nD × Cell => (reached ER (kcell ck.1 ck.2) 0 : sProp 𝕄))]
  iintro ⟨HI, #HR, Hat, Htok, Hl⟩
  ihave HK := (BI.bigSep_exists_pi Finset.univ (fun (ck : Dev nD × Cell) (κ : ℕ) => (cellInv ER (rd m ρ) κ (kcell ck.1 ck.2) : sProp 𝕄))) $$ HI
  icases HK with ⟨%K, #HI⟩
  ihave Htk := (toks_around (F := F)) $$ Htok
  have h : ∀ c ∈ (Finset.univ : Finset (Dev nD)), iprop(records m ρ K ∗ dealt c) ⊢ G' m ρ c := fun c _ => by
    unfold G'; iintro H; iexists K; iexact H
  iapply (bigSep_with_persistent h)
  isplitr
  · unfold records; rw [bigSep_sep']
    isplitr; · iexact HI
    iexact HR
  · unfold dealt; rw [bigSep_sep', bigSep_sep']
    isplitl [Hat]; · iexact Hat
    isplitl [Htk]; · iexact Htk
    iexact Hl

/-- The cells of every device are shared among all at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit a device starts with -/

/-- How many of a device's payments `l` go into cell `k` of device `c`. -/
def hits (d c : Dev nD) (k : Cell) (l : List Tgt) : ℕ := (l.filter fun t => decide (tgtD d t = c ∧ tgtK t = k)).length

theorem oweL_at (d c : Dev nD) (k : Cell) (l : List Tgt) : oweL d l (kcell c k) () = hits d c k l * amtK (some k) := by
  induction l with
  | nil => exact (Nat.zero_mul _).symm
  | cons t l ih =>
    rw [oweL_cons, Pi.add_apply, Finsupp.add_apply, ih]
    unfold tal hits
    rw [tallyAt_apply, List.filter_cons]
    by_cases h : tgtD d t = c ∧ tgtK t = k
    · rw [if_pos ⟨kcell_eq_iff.mpr ⟨h.1.symm, h.2.symm⟩, rfl⟩, if_pos (decide_eq_true h), List.length_cons, Nat.succ_mul, h.2]
    · rw [if_neg fun h' => h ⟨(kcell_eq_iff.mp h'.1).1.symm, (kcell_eq_iff.mp h'.1).2.symm⟩, if_neg (by simpa using h), Nat.add_zero]

/-- How many payments, over all devices, go into a cell. -/
def due : Cell → ℕ
  | .bar => 3 | .bs _ => 0 | .fs _ => 0 | .br _ => 1 | .fr _ => 1

theorem hits_due : ∀ (c : Dev nD) (k : Cell), ∑ d : Dev nD, hits d c k allL = due k := by decide +kernel

theorem launch_cell (c : Dev nD) (k : Cell) :
    tallyOn (kcell c k) (launchCredit (Pipeline.owing O₀) 0 (kcell c k)) = (tallyAt (kcell c k) () (due k * amtK (some k)) : CellTallies nD τ sig Unit) := by
  unfold tallyAt; refine congrArg _ (Finsupp.ext fun u => ?_); cases u
  rw [Pipeline.launchCredit_owing, Finsupp.single_eq_same, ← hits_due c k, Finset.sum_mul]
  exact Finset.sum_congr rfl fun d _ => oweL_at d c k allL

/-- A device starts with the credit for three signals, and for each slot that lands. -/
theorem creds (c : Dev nD) :
    (Pipeline.launchCred O₀ c : sProp 𝕄) ⊢ iprop(cred (tallyAt (kcell c .bar) () 3)
      ∗ (bigSep Finset.univ fun b : Fin 8 => cred (tallyAt (kcell c (.br b)) () NB)) ∗ (bigSep Finset.univ fun j : Fin 4 => cred (tallyAt (kcell c (.fr j)) () NF))) := by
  have h : (Pipeline.launchCred O₀ c : sProp 𝕄) ⊢ bigSep Finset.univ fun k : Cell => cred (tallyAt (kcell c k) () (due k * amtK (some k))) := by
    unfold Pipeline.launchCred
    rw [← bigSep_congr (s := Finset.univ) fun (k : Cell) _ => congrArg (cred (nD := nD) (sig := sig) (Ix := Unit) (Val := Elt F) (Name := ℕ) (U := UU) (Lvl := ℕ)) (launch_cell c k)]
    refine BI.Entails.trans (bigSep_subset (Finset.subset_univ ((Finset.univ : Finset Cell).map ⟨csem, csem_inj⟩))) ?_
    rw [bigSep_map]
    exact BI.Entails.refl _
  have e3 : due .bar * amtK (some .bar) = 3 := rfl
  have eB (b : Fin 8) : due (.br b) * amtK (some (.br b)) = NB := Nat.one_mul _
  have eF (j : Fin 4) : due (.fr j) * amtK (some (.fr j)) = NF := Nat.one_mul _
  rw [bigSep_cells] at h
  simp only [e3, eB, eF] at h
  iintro H
  ihave H' := h $$ H
  icases H' with ⟨H1, -, -, H2, H3⟩
  isplitl [H1]; · iexact H1
  isplitl [H2]; · iexact H2
  iexact H3

end Cert.A2A

end
-- ==== Proof.Launch.lean ====
/-
# `Launch`: the kernel's run on the four devices

Every fair run of the kernel ends with each device's rows of the result at `outF`, the arguments as they were and every
semaphore counter at zero.
-/
module

public import proofs.«01_k».proof.Proof.Deal
public import proofs.«01_k».proof.Proof.Gen.KernelIdeal.Launch
public import proofs.«01_k».proof.Proof.Gen.KernelIdeal.Points
public import Idealize.ShloMosaic.Lib.Pipeline.CollectiveSegs

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation Dat)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The two arrays of device `c` that no window stages: the weights, and the result at `f`. -/
def arrays2 (c : Dev nD) (f : Buf (Elt F) ((c : Thread nD τ).loc main_v1)) : sProp 𝕄 :=
  iprop((((c : Thread nD τ).loc main_arg1) ↦{fullShare} m ((c : Thread nD τ).loc main_arg1)) ∗ (((c : Thread nD τ).loc main_v1) ↦{fullShare} f))

/-- What device `c` starts the kernel with; -/
def start (c : Dev nD) : sProp 𝕄 :=
  iprop(G' m ρ c ∗ (cred (tallyAt (kcell c .bar) () 3)
      ∗ (bigSep Finset.univ fun b : Fin 8 => cred (tallyAt (kcell c (.br b)) () NB)) ∗ (bigSep Finset.univ fun j : Fin 4 => cred (tallyAt (kcell c (.fr j)) () NF)))
    ∗ levAts L lv ∗ arrays2 m c (m ((c : Thread nD τ).loc main_v1)))
/-- what it ends it with. -/
def finish (c : Dev nD) : sProp 𝕄 := iprop(unscopedSems0 c ∗ arrays2 m c (outF m ρ c))

def Φ₀ (c : Dev nD) : sProp 𝕄 := iprop(∃ K, bodyHeld m ρ K c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
  Φ t := match t with
    | ⟨0, _⟩ => Φ₀ m ρ c
    | ⟨_ + 1, _⟩ => bodyLeft m ρ c
  q _ := fullShare
  owed t := match t with
    | ⟨0, _⟩ => O₀ c
    | ⟨_ + 1, _⟩ => 0

theorem fetch_0 (t : Fin cfg0.N) : (cfg0.win (0 : Fin 1)).fetch t = true := fetch0_0 t

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body, and what it takes back. -/
def bodyPre (c : Dev nD) : sProp 𝕄 :=
  iprop(Φ₀ m ρ c ∗ (dats m ρ 0 c).owesAt () t₀.castSucc ∗ (∃ d, stg c cc0_stg0_0 ((dats m ρ 0 c).before (0 : Fin 1) t₀ d)))
def bodyPost (c : Dev nD) : sProp 𝕄 :=
  iprop(bodyLeft m ρ c ∗ (dats m ρ 0 c).owesAt () t₀.succ ∗ stg c cc0_stg0_0 (xs m ρ c))

set_option maxRecDepth 100000 in
/-- The body meets the pipeline's obligation. -/
theorem body_obligation (c : Dev nD) : BodyObligation (dats (F := F) m ρ 0 c) (defs₀ (F := F)) 𝒱₀ () Set.univ := fun t => by
  rw [fin_N t]
  rw [show ∀ Φ : Fin cfg0.W → sProp 𝕄, bigSep Finset.univ Φ = iprop(Φ (0 : Fin 1)) from fun Φ => bigSep_W0 Φ,
    show ∀ Φ : Fin cfg0.W → sProp 𝕄, bigSep Finset.univ Φ = iprop(Φ (0 : Fin 1)) from fun Φ => bigSep_W0 Φ]
  simp only [owns_whole_eq]
  show bodyPre m ρ c ⊢ wp frame (wpE (defs₀ (F := F)) 𝒱₀ c none) Set.univ
    (cc0_body (F := F) xM (Memref.isWhole_whole _) wM (Memref.isWhole_whole _) oM (Memref.isWhole_whole _) wb (Memref.isWhole_whole _)
            sB (Memref.isWhole_whole _) sF (Memref.isWhole_whole _) rB (Memref.isWhole_whole _) rF (Memref.isWhole_whole _) oS (Memref.isWhole_whole _)
            cc0_scratch6 cc0_scratch7 cc0_scratch8 cc0_scratch9 cc0_scratch10 cc0_scratch11) (fun _ => bodyPost m ρ c)
  unfold bodyPre Φ₀
  iintro ⟨⟨%K, Hb⟩, Ho, ⟨%d0, %g0, %hg0, Hx⟩⟩
  have hx : g0 = xs m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = oweL c allL from rfl]
  iapply (sound_body m ρ K c fun _ => bodyPost m ρ c)
  isplitl [Hb Hx HO]
  · isplitl [Hb]; · iexact Hb
    isplitl [Hx]; · unfold xPts; iexact Hx
    unfold ow; iexists W; iexact HO
  · iintro ⟨Hl, Hx, HO⟩
    unfold bodyPost Dat.owesAt Pipeline.owesWithin ow xPts
    icases HO with ⟨%W', HO⟩
    rw [show (dats m ρ 0 c).owed t₀.succ = oweL c [] from rfl]
    isplitl [Hl]; · iexact Hl
    isplitl [HO]
    · iexists W'
      isplitr; · ipureintro; exact fun _ _ => Or.inl trivial
      iexact HO
    · iexists _; isplitr; · (ipureintro; rfl)
      iexact Hx

/-! ## Into the body and out of it -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hu, Hlev, Hcr, -, HG⟩
  ihave Hc := (creds (F := F) c) $$ Hcr
  imodintro
  unfold start arrays2
  isplitl
  · isplitl [HG]; · iexact HG
    isplitl [Hc]; · iexact Hc
    isplitl [Hlev]; · iexact Hlev
    iexact Hu
  · iempintro

theorem held_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ start G' dealt payToks locals0 arrays2 bodyHeld
  rw [w_pieces, o_pieces, bigSep_cells]
  simp only [sndB, sndF, waitT, wIdle, oIdle, bigSep_sep']
  iintro ⟨⟨⟨%K, #Hrec, ⟨Hab, Has, Haf, Har, Hag⟩, ⟨Hbt, Hts, Htf, Htr, Htg⟩, Hsw, Hso⟩, ⟨Hcb, Hcr, Hcg⟩, #Hlev, Hw, Ho⟩, -, H0, H1, H2, H3, H4, H5⟩
  ihave H0 := (slots_split (b := cc0_scratch0) wR_tiling c) $$ H0
  ihave H1 := (slots_split (b := cc0_scratch1) bR_tiling c) $$ H1
  ihave H2 := (slots_split (b := cc0_scratch2) fR_tiling c) $$ H2
  ihave H3 := (slots_split (b := cc0_scratch3) bR_tiling c) $$ H3
  ihave H4 := (slots_split (b := cc0_scratch4) fR_tiling c) $$ H4
  ihave H5 := (slots_split (b := cc0_scratch5) oR_tiling c) $$ H5
  iexists K
  iframe Hrec Hlev ∗
  isplitl [Hcr]; · iexact Hcr
  iexact Hcg

theorem left_exit (c : Dev nD) :
    (dats m ρ 0 c).Φ (Fin.last cfg0.N) ⊢ iprop(finish m ρ c ∗ Pipeline.ownSems0 osem c ∗ Pipeline.scopedRest cfg0.spec c) := by
  rw [show (dats m ρ 0 c).Φ (Fin.last cfg0.N) = bodyLeft m ρ c from rfl, scopedRest0_eq, ownSems0_eq]
  unfold finish arrays2 bodyLeft
  rw [w_pieces, o_pieces, unscopedSems0_eq]
  simp only [doneT, heldK, wIdle, oIdle, bigSep_sep']
  iintro ⟨Hb, ⟨H1, Hs1⟩, ⟨H2, Hs2⟩, ⟨H3, Hs3⟩, ⟨H4, Hs4⟩, ⟨H0, Hsw⟩, ⟨H5, Hso⟩, Hw, Ho⟩
  ihave H0 := (slots_join (b := cc0_scratch0) wR_tiling c) $$ H0
  ihave H1 := (slots_join (b := cc0_scratch1) bR_tiling c) $$ H1
  ihave H2 := (slots_join (b := cc0_scratch2) fR_tiling c) $$ H2
  ihave H3 := (slots_join (b := cc0_scratch3) bR_tiling c) $$ H3
  ihave H4 := (slots_join (b := cc0_scratch4) fR_tiling c) $$ H4
  ihave H5 := (slots_join (b := cc0_scratch5) oR_tiling c) $$ H5
  iframe

theorem waits (c : Dev nD) : (levAts L lv : sProp 𝕄) ⊢ Pipeline.cellsWaits cfgs (dats m ρ) () 0 c :=
  Pipeline.cellsWaits_intro cfgs (dats m ρ) () 0 c fun w s t => by
    have hk : lvK (kindOf (.dma ((cfg0.win w).sem s))) = 0 := by fin_cases w; fin_cases s <;> decide +kernel
    rcases t with ⟨_ | _, ht⟩
    · exact mayWait_low c _ hk allL
    · exact mayWait_low c _ hk []

/-! ## The run -/

/-- What is read of device `c` at the end: the result's rows, the weights, and its unscoped counters. -/
def QY (c : Dev nD) (s : MemSt nD τ sig (Elt F)) : Prop :=
  (s.mem ((c : Thread nD τ).loc main_v1) = outF m ρ c ∧ s.mem ((c : Thread nD τ).loc main_arg1) = m ((c : Thread nD τ).loc main_arg1))
    ∧ ∀ sm : SemLoc sig, sm.isScoped .tc = false → s.sem ((c.tc : Thread nD τ), sm) = 0

theorem read_pts (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr
  · ipureintro; exact funext fun i => h i (Finset.mem_univ i)
  · iexact HSI

theorem finish_read (c : Dev nD) (s' : Phys nD τ sig (Elt F)) :
    iprop(finish m ρ c ∗ emp ∗ SI s') ⊢ |={Set.univ}=> (iprop(⌜QY m ρ c s'.mem⌝ ∗ SI s') : sProp 𝕄) := by
  unfold finish arrays2
  iintro ⟨⟨Hu, Hw, Ho⟩, -, HSI⟩
  ihave H := (read_pts _ _ s') $$ [Hw HSI]
  · isplitl [Hw] <;> iassumption
  icases H with ⟨%hw, HSI⟩
  ihave H := (read_pts _ _ s') $$ [Ho HSI]
  · isplitl [Ho] <;> iassumption
  icases H with ⟨%ho, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨⟨ho, hw⟩, hs⟩
  · iexact HSI

/-- What the run ends with: on every device the result at `outF`, both arguments as they were; every counter at zero. -/
def Done (r : PUnit × MemSt nD τ sig (Elt F)) : Prop :=
  (∀ c : Dev nD, r.2.mem ((c : Thread nD τ).loc main_v1) = outF m ρ c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0

/-- The rounds' part, owned through the two injections one after the other, is owned through `ER`. -/
theorem own_rounds (a : UB) : (BI.own (((Emb.inl : Emb UB (UB × Counters)).trans embR) a) : sProp 𝕄) ⊢ BI.own (ER a) := BI.Entails.refl _

set_option maxRecDepth 100000 in
/-- Every fair run of the kernel on the four devices, from any memory with its counters at zero, ends so. -/
theorem run_main : θ_run defs (onTc (τ := τ) (main (F := F))) (s₀ m ρ) (Done m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H := (own_pair_emb _ _ _) $$ HX
      icases H with ⟨HX, -⟩
      ihave HX := (own_rounds _) $$ HX
      imod (fund_ring m ρ) $$ HX with HG
      imodintro
      isplitl [HP] <;> iassumption)
    (hglob := glob m ρ)
    (hA := fun _ _ => rfl) (hpf := fun _ k => k.elim0)
    (X := start m ρ) (Y := finish m ρ) (Z := fun _ => iprop(emp))
    (hX := start_intro m ρ) (hin := held_intro m ρ) (hout := left_exit m ρ)
    (QY := QY m ρ) (hY := finish_read m ρ)
    (hQ := fun _ h hs => ⟨fun c => ⟨(h c).2.2.1.1, ((h c).1 (0 : Fin 1)).trans ((dats (F := F) m ρ 0 c).arrAt_in (0 : Fin 1) rfl _), (h c).2.2.1.2⟩,
      sem_eq_zero hs fun c => (h c).2.2.2⟩)

end Cert.A2A

end
-- ==== Proof.Frames.lean ====
/-
# `Frames`: the runs of the three programs

The kernel's run, read at both float values, and the reference's.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.A2A

open Idealize.ShloMosaic Idealize.SL.Sem Idealize.ShloMosaic.TcCoe

/-- The kernel as printed for the machine's floats and as printed for the exact reals is one program: their bodies are
    the same, -/
theorem bodies_same : Cert.Kernel.defs₀ (F := Bits) = Cert.KernelIdeal.defs₀ (F := Bits) :=
  congrArg Defs.onTc (funext fun l => funext fun a => match l, a with
    | ⟨0, _⟩, (_, _) => rfl
    | ⟨_ + 1, h⟩, _ => absurd h (Nat.not_lt.2 (Nat.le_add_left _ _)))

/-- and so are their tables. -/
theorem tables_same : Cert.Kernel.defs (F := Bits) = Cert.KernelIdeal.defs (F := Bits) := congrArg (Pipeline.defs _) bodies_same

/-- The kernel runs on the four devices, at the machine's floats: it ends, its arguments as they were, its counters at
    zero. -/
theorem frame_kernel : Cert.quiescent_Kernel := by
  intro m ρ _
  rw [tables_same]
  exact (θ_run Cert.KernelIdeal.defs _ _).mono (fun _ h => ⟨fun c => (h.1 c).2, h.2⟩) (run_main (F := Bits) m ρ)

/-- The same of the kernel at the exact reals. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The same of the reference at the exact reals, which has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.A2A

end
-- ==== Proof.Value.lean ====
/-
# `Value`: what the kernel's result holds, in the exact reals

With exact arithmetic a change of float format changes nothing, so every tile of a device's result is the activation of a
product of rows of `x` with columns of the weights, whichever way the tile travelled.
-/
module

public import proofs.«01_k».proof.Proof.Steps2
public import Idealize.ShloMosaic.Lib.MatmulPlain
public import Idealize.ShloMosaic.Lib.Pipeline.Value

@[expose] public section

noncomputable section

namespace Cert.A2A

open Cert.KernelIdeal Cert.KernelIdeal.Gen
open Idealize.ShloMosaic Idealize.ShloMosaic.TcCoe Idealize.ShloMosaic.ValueIdx
open scoped BigOperators

/-! ## The activation -/

/-- The activation, its cube written as the reference writes it: `y/2 · (1 + tanh (c · (y + a · y³)))`. -/
def act (y : EReal) : EReal :=
  (Ideal.ofBits .f32 0x3F000000#32 * y)
    * (Ideal.ofBits .f32 0x3F800000#32
        + Ideal.tanh (Ideal.ofBits .f32 0x3F4C422A#32 * (y + Ideal.ofBits .f32 0x3D372713#32 * (y * y * y))))

/-- The kernel multiplies the cube's constant in first, -/
def actK (y : EReal) : EReal :=
  (Ideal.ofBits .f32 0x3F000000#32 * y)
    * (Ideal.ofBits .f32 0x3F800000#32
        + Ideal.tanh (Ideal.ofBits .f32 0x3F4C422A#32 * (y + Ideal.ofBits .f32 0x3D372713#32 * y * y * y)))

/-- which is the same number. -/
theorem actK_eq (y : EReal) : actK y = act y := by unfold actK act; simp only [mul_assoc]

/-! ## One tile -/

/-- The product a tile is made from, at a position of it. -/
def dotT (w : S1x4096x512.Idx → EReal) (x : S1024x4096.Idx → EReal) (y : S1024x512.Idx) : EReal :=
  ∑ k : Fin 4096, x (ix2 (y 0) k) * w (Shape.reshapeEquiv (s := S1x4096x512) (s' := S4096x512) squeezes_S1x4096x512_S4096x512.numel_eq (ix2 k (y 1)))

/-- A tile of a device's own rows holds the activation of the product. -/
theorem pay13_at (w : Vec Ideal S1x4096x512 .f32) (x : Vec Ideal S1024x4096 .bf16) (y : S1024x512.Idx) :
    k0_pay13 (F := Ideal) w x (Shape.reshapeEquiv (s := S1x1024x512) (s' := S1024x512) squeezes_S1x1024x512_S1024x512.numel_eq y)
      = act (dotT w x y) := by
  have e : k0_pay13 (F := Ideal) w x = shapeCast S1x1024x512 (fun z => actK (FloatOps.matmul (F := Ideal) (φ₁ := .bf16) (φ₂ := .bf16)
      (DotDims.plain 1024 4096 512) none
      (shapeCast S1024x4096 x shapeCasts_S1024x4096_S1024x4096) (shapeCast S4096x512 w shapeCasts_S1x4096x512_S4096x512)
      (constant S1024x512 .f32 0x00000000#32) z)) shapeCasts_S1024x512_S1x1024x512 := rfl
  rw [e, ← actK_eq]
  show actK _ = _
  rw [Shape.reshapeEquiv_reshapeEquiv, Shape.reshapeEquiv_self, shapeCast_self]
  obtain ⟨a, b, rfl⟩ : ∃ a b, y = ix2 a b := ⟨_, _, eq_ix2 y⟩
  rw [Ideal.matmul_plain_apply]
  show actK (Ideal.ofBits .f32 0x00000000#32 + _) = _
  rw [Ideal.ofBits_zero_f32, zero_add]
  rfl

/-- A tile sent in bfloat16 and widened on arrival holds what a device's own would; -/
theorem pay22_pay1 (w : Vec Ideal S1x4096x512 .f32) (x : Vec Ideal S1024x4096 .bf16) :
    k0_pay22 (F := Ideal) (k0_pay1 w x) = k0_pay13 w x :=
  shapeCast_shapeCast (k0_pay13 (F := Ideal) w x) shapeCasts_S1x1024x512_S1024x512 shapeCasts_S1024x512_S1x1024x512

/-- so does a tile sent in float8. -/
theorem pay23_pay2 (w : Vec Ideal S1x4096x512 .f32) (x : Vec Ideal S1024x4096 .bf16) :
    k0_pay23 (F := Ideal) (k0_pay2 w x) = k0_pay13 w x :=
  shapeCast_shapeCast (k0_pay13 (F := Ideal) w x) shapeCasts_S1x1024x512_S1024x512 shapeCasts_S1024x512_S1x1024x512

/-! ## The whole result -/

variable (m : (ℓ : Loc nD τ sig) → Buf (Elt Ideal) ℓ) (ρ : Dev nD → PrngReg)

/-- The four devices, counted from one of them. -/
theorem pe_cases (c o : Dev nD) (h0 : o ≠ c) (h1 : o ≠ pe 1 c) (h2 : o ≠ pe 2 c) : o = pe 3 c := by
  revert c o; decide

/-- Whichever way it travelled, the tile of row block `o` and column block `j` on device `c` is made from device `o`'s rows
    and from column block `j` of device `c`'s columns. -/
theorem outX_ideal (c o : Dev nD) (j : Fin 4) : outX m ρ c o j = k0_pay13 (wv m o c j) (xs m ρ o) := by
  unfold outX
  split
  next h => rw [h]
  next h0 =>
    split
    next h =>
      subst h
      have hj : jB ⟨j.val, by omega⟩ = j := Fin.ext (Nat.mod_eq_of_lt j.isLt)
      have hs : srcB ⟨j.val, by omega⟩ c = pe 1 c := if_pos j.isLt
      unfold landB
      rw [pay22_pay1, hj, hs]
    next h1 =>
      split
      next h => subst h; unfold landF; rw [pay23_pay2]
      next h2 =>
        have h := pe_cases c o h0 h1 h2
        subst h
        have hj : jB ⟨4 + j.val, by omega⟩ = j := Fin.ext (show (4 + j.val) % 4 = j.val by omega)
        have hs : srcB ⟨4 + j.val, by omega⟩ c = pe 3 c := if_neg (show ¬ (4 + j.val < 4) by omega)
        unfold landB
        rw [pay22_pay1, hj, hs]

/-- The rows of `x` that a device's kernel reads are the rows it holds; -/
theorem xs_at (o : Dev nD) (i : S1024x4096.Idx) : xs m ρ o i = m ((o : Thread nD τ).loc main_arg0) i := by
  unfold xs
  refine congrArg (m ((o : Thread nD τ).loc main_arg0)) (Shape.idx_ext₂ ?_ ?_)
  · show 0 + 1 * (i 0).val = (i 0).val; omega
  · show 0 + 1 * (i 1).val = (i 1).val; omega

/-- a column block of the weights is read at its place in them. -/
theorem wv_at (o c : Dev nD) (j : Fin 4) (k : Fin 4096) (b : Fin 512) (i : S4096x8192.Idx) (h0 : (i 0).val = k.val)
    (h1 : (i 1).val = 2048 * c.val + 512 * j.val + b.val) :
    wv m o c j (Shape.reshapeEquiv (s := S1x4096x512) (s' := S4096x512) squeezes_S1x4096x512_S4096x512.numel_eq (ix2 k b))
      = m ((o : Thread nD τ).loc main_arg1) i := by
  unfold wv reidx
  rw [Equiv.symm_apply_apply]
  refine congrArg (m ((o : Thread nD τ).loc main_arg1)) (Shape.idx_ext₂ ?_ ?_)
  · show 0 + 1 * k.val = (i 0).val; omega
  · show 2048 * c.val + 512 * j.val + 1 * b.val = (i 1).val; omega

end Cert.A2A

end
-- ==== Proof.Algebraic.lean ====
/-
# `Algebraic`: the kernel's result is the reference's, in the exact reals

The reference's result at a row and a column is the activation of the sum over `k` of `x` at that row times the weights at
that column. A device's result at a position of its own is the same number at the position's place in the whole.
-/
module

public import proofs.«01_k».proof.Proof.Frames
public import proofs.«01_k».proof.Proof.Value
public import Idealize.ShloMosaic.Lib.StackMember

@[expose] public section

noncomputable section

namespace Cert.A2A

open Cert.KernelIdeal Cert.KernelIdeal.Gen
open Idealize.ShloMosaic Idealize.ShloMosaic.TcCoe Idealize.ShloMosaic.ValueIdx Idealize.SL.Sem
open scoped BigOperators

/-! ## The reference -/

/-- The reference's result from its two arguments. -/
def refOut (X : FVec Ideal Cert.ReferenceIdeal.S4096x4096 .bf16) (W : FVec Ideal Cert.ReferenceIdeal.S4096x8192 .f32) :
    FVec Ideal Cert.ReferenceIdeal.S4096x8192 .f32 := fun i =>
  act (Host.dotGeneral (F := Ideal) (φ₁ := .f32) (φ₂ := .f32) (DotDims.plain 4096 4096 8192) none X W i)

/-- That result at a row and a column. -/
theorem refOut_at (X : FVec Ideal Cert.ReferenceIdeal.S4096x4096 .bf16) (W : FVec Ideal Cert.ReferenceIdeal.S4096x8192 .f32)
    (i : Cert.ReferenceIdeal.S4096x8192.Idx) : refOut X W i = act (∑ k : Fin 4096, X (ix2 (i 0) k) * W (ix2 k (i 1))) := by
  unfold refOut
  obtain ⟨a, b, rfl⟩ : ∃ a b, i = ix2 a b := ⟨_, _, eq_ix2 i⟩
  exact congrArg act (StackMember.dotGeneral_plain_apply none X W a b)

/-- The reference's run ends with that result, its arguments as they were. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      fun r => ∀ c : Dev Cert.ReferenceIdeal.nD,
        r.2.mem ((c.tc : Thread _ _).loc Cert.ReferenceIdeal.main_v14)
            = refOut (m ((c.tc : Thread _ _).loc Cert.ReferenceIdeal.main_arg0)) (m ((c.tc : Thread _ _).loc Cert.ReferenceIdeal.main_arg1))
          ∧ r.2.mem ((c.tc : Thread _ _).loc Cert.ReferenceIdeal.main_arg0) = m ((c.tc : Thread _ _).loc Cert.ReferenceIdeal.main_arg0)
          ∧ r.2.mem ((c.tc : Thread _ _).loc Cert.ReferenceIdeal.main_arg1) = m ((c.tc : Thread _ _).loc Cert.ReferenceIdeal.main_arg1) :=
  (θ_run Cert.ReferenceIdeal.defs _ _).mono (fun _ h c => ⟨(h c).1.trans rfl, (h c).2⟩)
    (Cert.ReferenceIdeal.Value.run (F := Ideal) m ρ)

/-! ## The kernel -/

variable (m : (ℓ : Loc nD τ sig) → Buf (Elt Ideal) ℓ) (ρ : Dev nD → PrngReg)

/-- Where every device holds its rows of `X` and all of `W`, a device's result is its columns of the reference's. -/
theorem outF_block (X : FVec Ideal Cert.ReferenceIdeal.S4096x4096 .bf16) (W : FVec Ideal Cert.ReferenceIdeal.S4096x8192 .f32)
    (hX : ∀ c : Dev nD, m ((c : Thread nD τ).loc main_arg0) = Layout.block ⟨2, ![1024, 4096]⟩ ⟨2, ![4096, 4096]⟩ 0 4 c X)
    (hW : ∀ c : Dev nD, m ((c : Thread nD τ).loc main_arg1) = W) (c : Dev nD) :
    outF m ρ c = Layout.block ⟨2, ![4096, 2048]⟩ ⟨2, ![4096, 8192]⟩ 1 4 c (refOut X W) := by
  funext i
  have hi0 : (i 0).val < 4096 := (i 0).isLt
  have hi1 : (i 1).val < 2048 := (i 1).isLt
  rw [Layout.block_apply, refOut_at]
  obtain ⟨o, ho⟩ : ∃ o : Dev nD, o.val = (i 0).val / 1024 := ⟨⟨_, row_lt i⟩, rfl⟩
  obtain ⟨j, hj⟩ : ∃ j : Fin 4, j.val = (i 1).val / 512 := ⟨⟨_, col_lt i⟩, rfl⟩
  have ha : (i 0).val % 1024 < 1024 := Nat.mod_lt _ (by decide)
  have hb : (i 1).val % 512 < 512 := Nat.mod_lt _ (by decide)
  rw [outF_at m ρ c o j (ix2 ⟨_, ha⟩ ⟨_, hb⟩) i (show (i 0).val = 1024 * o.val + (i 0).val % 1024 by omega)
    (show (i 1).val = 512 * j.val + (i 1).val % 512 by omega), outX_ideal, pay13_at]
  refine congrArg act (Finset.sum_congr rfl fun k _ => congrArg₂ (fun a b : EReal => a * b) ?_ ?_)
  · rw [xs_at, hX o, Layout.block_apply]
    refine congrArg X (Shape.idx_ext₂ ?_ ?_)
    · show o.val * 1024 + (i 0).val % 1024 = (i 0).val; omega
    · rfl
  · refine (wv_at m o c j k ⟨_, hb⟩ (ix2 k ⟨2048 * c.val + (i 1).val, by have hc : c.val < 4 := c.isLt; omega⟩) rfl
      (show 2048 * c.val + (i 1).val = 2048 * c.val + 512 * j.val + (i 1).val % 512 by omega)).trans ?_
    rw [hW o]
    refine congrArg W (Shape.idx_ext₂ ?_ ?_)
    · rfl
    · show 2048 * c.val + (i 1).val = c.val * 2048 + (i 1).val; omega

/-- In the exact reals the kernel on the four devices and the reference on one both run, and each device's result is its
    block of columns of the reference's. -/
theorem algebraic : Cert.algebraic_KernelIdeal_ReferenceIdeal := by
  intro m ρ m' ρ' _ h
  refine ⟨_, (θ_run Cert.KernelIdeal.defs _ _).mono (fun _ e c => ⟨(e.1 c).1.trans ?_, (e.1 c).2⟩) (run_main (F := Ideal) m ρ),
    (θ_run Cert.ReferenceIdeal.defs _ _).mono (fun _ e => e 0) (run_reference m' ρ')⟩
  exact outF_block m ρ _ _ (fun c => (h c).1) (fun c => (h c).2) c

end Cert.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The five claims: the three programs' runs, that the kernel's exact-real reading rewrites nothing, and that in the exact
    reals each device's result is its block of the reference's. -/
theorem claim : Cert.Claim := ⟨Cert.Kernel.Gen.facts, Cert.KernelIdeal.Gen.facts, Cert.ReferenceIdeal.Gen.facts,
  Cert.A2A.frame_kernel, Cert.A2A.frame_kernelIdeal, Cert.A2A.frame_referenceIdeal, trivial, Cert.A2A.algebraic⟩

end Cert.Proof

end
